-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_four_candidates [hPre_four_candidates : Cert.Pre_four_candidates.Facts] (m : (ℓ : Loc Cert.KernelIdeal.nD Cert.KernelIdeal.τ Cert.KernelIdeal.sig) → Buf (Elt Ideal) ℓ) : Prop :=
  ∀ c : Dev Cert.KernelIdeal.nD,
    (Cert.Pre_four_candidates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_four_candidates [hPre_four_candidates : Cert.Pre_four_candidates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_four_candidates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_four_candidates [hKernelIdeal : Cert.KernelIdeal.Facts] [hPre_four_candidates : Cert.Pre_four_candidates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_four_candidates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_four_candidates [hReferenceIdeal : Cert.ReferenceIdeal.Facts] [hPre_four_candidates : Cert.Pre_four_candidates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_four_candidates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_four_candidates [hKernelIdeal : Cert.KernelIdeal.Facts] [hReferenceIdeal : Cert.ReferenceIdeal.Facts] [hPre_four_candidates : Cert.Pre_four_candidates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_four_candidates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_v195) = v1 c
          ∧ r.2.mem ((c.tc : Thread Cert.ReferenceIdeal.nD Cert.ReferenceIdeal.τ).loc Cert.ReferenceIdeal.main_v201) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_four_candidates : Cert.Pre_four_candidates.Facts),
    quiescent_Kernel (hKernel := hKernel)
    ∧ quiescent_KernelIdeal (hKernelIdeal := hKernelIdeal)
    ∧ quiescent_KernelIdeal_pre_four_candidates (hKernelIdeal := hKernelIdeal) (hPre_four_candidates := hPre_four_candidates)
    ∧ quiescent_ReferenceIdeal (hReferenceIdeal := hReferenceIdeal)
    ∧ quiescent_ReferenceIdeal_pre_four_candidates (hReferenceIdeal := hReferenceIdeal) (hPre_four_candidates := hPre_four_candidates)
    ∧ preserves_Kernel_KernelIdeal
    ∧ algebraic_KernelIdeal_ReferenceIdeal_pre_four_candidates (hKernelIdeal := hKernelIdeal) (hReferenceIdeal := hReferenceIdeal) (hPre_four_candidates := hPre_four_candidates)
-- ==== Pre_four_candidates.lean ====
abbrev S_ : Shape := ⟨0, ![]⟩
abbrev S32x8x100000 : Shape := ⟨3, ![32, 8, 100000]⟩
abbrev S32x8x4 : Shape := ⟨3, ![32, 8, 4]⟩
abbrev S32x8x1 : Shape := ⟨3, ![32, 8, 1]⟩
abbrev S32x2x4x100000 : Shape := ⟨4, ![32, 2, 4, 100000]⟩
abbrev S32x4 : Shape := ⟨2, ![32, 4]⟩

class Facts : Prop where
  sliceFits_S32x8x4_S32x8x1 : S32x8x4.Slices (fun _ => 0) S32x8x1
  h_S_ : 0 < S_.numel
  bcast_S_S32x8x100000 : S_.BroadcastsInDim S32x8x100000 (![] : Fin 0 → Fin S32x8x100000.rank)
  bcast_S_S32x8x1 : S_.BroadcastsInDim S32x8x1 (![] : Fin 0 → Fin S32x8x1.rank)
  bcast_S32x8x1_S32x8x100000_0_1_2 : S32x8x1.BroadcastsInDim S32x8x100000 (![0, 1, 2] : Fin 3 → Fin S32x8x100000.rank)
  shapeCasts_S32x8x100000_S32x2x4x100000 : S32x8x100000.ShapeCasts S32x2x4x100000
  natLt_1_32 : 1 < 32
  reducesTo_S32x2x4x100000_S32x4_d1_3 : S32x2x4x100000.ReducesTo [1, 3] S32x4
  bcast_S_S32x4 : S_.BroadcastsInDim S32x4 (![] : Fin 0 → Fin S32x4.rank)
  reducesTo_S32x4_S_d0_1 : S32x4.ReducesTo [0, 1] S_

variable [Facts]

def fn_part1 {F : FTy → Type} [FloatOps F] (main_v13 : IVec S32x4 32) (main_v14 : IVec S32x4 32) : IVec S_ 1 :=
  let main_v15 : IVec S32x4 1 := cmpi .sge main_v13 main_v14
  let main_c_7 : IVec S_ 1 := constantI S_ 1 1#1
  let main_v16 : IVec S_ 1 := (fun x v => Host.reduce IntOp.andi x v reducesTo_S32x4_S_d0_1 h_S_) main_v15 main_c_7
  main_v16

def fn {F : FTy → Type} [FloatOps F] (main_arg0 : IVec S_ 32) (main_arg1 : FVec F S32x8x100000 .f32) (main_arg2 : FVec F S32x8x4 .f32) : IVec S_ 1 :=
  let main_c : IVec S_ 32 := constantI S_ 32 1#32
  let main_v0 : IVec S_ 32 := subi main_arg0 main_c
  let main_c_0 : IVec S_ 32 := constantI S_ 32 0#32
  let main_v1 : IVec S_ 1 := cmpi .slt main_v0 main_c_0
  let main_c_1 : IVec S_ 32 := constantI S_ 32 4#32
  let main_v2 : IVec S_ 32 := addi main_v0 main_c_1
  let main_v3 : IVec S_ 32 := select main_v1 main_v2 main_v0
  let main_c_2 : IVec S_ 32 := constantI S_ 32 0#32
  let main_c_3 : IVec S_ 32 := constantI S_ 32 0#32
  let main_v4 : FVec F S32x8x1 .f32 := (fun x i => Host.dynamicSlice S32x8x1 x (fun k => (i k (Shape.Idx.first h_S_)).toInt) sliceFits_S32x8x4_S32x8x1) main_arg2 (![main_c_2, main_c_3, main_v3] : Fin 3 → IVec S_ 32)
  let main_cst : FVec F S_ .f32 := constant S_ .f32 0xFF800000#32
  let main_v5 : FVec F S32x8x100000 .f32 := broadcastInDim S32x8x100000 ![] bcast_S_S32x8x100000 main_cst
  let main_v6 : IVec S32x8x100000 1 := cmpf .ogt main_arg1 main_v5
  let main_cst_4 : FVec F S_ .f32 := constant S_ .f32 0xFF800000#32
  let main_v7 : FVec F S32x8x1 .f32 := broadcastInDim S32x8x1 ![] bcast_S_S32x8x1 main_cst_4
  let main_v8 : IVec S32x8x1 1 := cmpf .ogt main_v4 main_v7
  let main_v9 : IVec S32x8x100000 1 := broadcastInDim S32x8x100000 ![0, 1, 2] bcast_S32x8x1_S32x8x100000_0_1_2 main_v8
  let main_v10 : IVec S32x8x100000 1 := andi main_v6 main_v9
  let main_v11 : IVec S32x2x4x100000 1 := shapeCast S32x2x4x100000 main_v10 shapeCasts_S32x8x100000_S32x2x4x100000
  let main_v12 : IVec S32x2x4x100000 32 := (extui 32 · natLt_1_32) main_v11
  let main_c_5 : IVec S_ 32 := constantI S_ 32 0#32
  let main_v13 : IVec S32x4 32 := (fun x v => Host.reduce IntOp.addi x v reducesTo_S32x2x4x100000_S32x4_d1_3 h_S_) main_v12 main_c_5
  let main_c_6 : IVec S_ 32 := constantI S_ 32 4#32
  let main_v14 : IVec S32x4 32 := broadcastInDim S32x4 ![] bcast_S_S32x4 main_c_6
  fn_part1 (F := F) main_v13 main_v14
-- ==== Kernel.lean ====
abbrev S_ : Shape := ⟨0, ![]⟩
abbrev S32x8x100000 : Shape := ⟨3, ![32, 8, 100000]⟩
abbrev S32x8x4 : Shape := ⟨3, ![32, 8, 4]⟩
abbrev S32x8x8x12500 : Shape := ⟨4, ![32, 8, 8, 12500]⟩
abbrev S32x8x1 : Shape := ⟨3, ![32, 8, 1]⟩
abbrev S32x1x8 : Shape := ⟨3, ![32, 1, 8]⟩
abbrev S32x1x16 : Shape := ⟨3, ![32, 1, 16]⟩
abbrev S2x8x8x12500 : Shape := ⟨4, ![2, 8, 8, 12500]⟩
abbrev S2x1x8 : Shape := ⟨3, ![2, 1, 8]⟩
abbrev S2x1x16 : Shape := ⟨3, ![2, 1, 16]⟩
abbrev S8x12500 : Shape := ⟨2, ![8, 12500]⟩
abbrev S1x1x16 : Shape := ⟨3, ![1, 1, 16]⟩
abbrev S1x1x1 : Shape := ⟨3, ![1, 1, 1]⟩
abbrev S1x1x8x12500 : Shape := ⟨4, ![1, 1, 8, 12500]⟩
abbrev S1x8x12500 : Shape := ⟨3, ![1, 8, 12500]⟩
abbrev S1 : Shape := ⟨1, ![1]⟩
abbrev S1x16 : Shape := ⟨2, ![1, 16]⟩
abbrev S32x16 : Shape := ⟨2, ![32, 16]⟩

abbrev nBuf : Space → Nat
  | .hbm => 21
  | .vmem => 10
  | .smem => 0
  | _ => 0

abbrev bufTy : (tb : Table) → Fin (tcTables nBuf tb) → BufTy
  | .hbm, ⟨0, _⟩ => ⟨S_, .i32⟩
  | .hbm, ⟨1, _⟩ => ⟨S32x8x100000, .f32⟩
  | .hbm, ⟨2, _⟩ => ⟨S32x8x4, .f32⟩
  | .hbm, ⟨3, _⟩ => ⟨S32x8x8x12500, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S32x8x1, .f32⟩
  | .hbm, ⟨14, _⟩ => ⟨S32x1x8, .f32⟩
  | .hbm, ⟨15, _⟩ => ⟨S32x1x16, .f32⟩
  | .hbm, ⟨16, _⟩ => ⟨S32x1x16, .i32⟩
  | .hbm, ⟨17, _⟩ => ⟨S32x1x16, .i32⟩
  | .hbm, ⟨18, _⟩ => ⟨S32x16, .f32⟩
  | .hbm, ⟨19, _⟩ => ⟨S32x16, .i32⟩
  | .hbm, ⟨20, _⟩ => ⟨S32x16, .i32⟩
  | .local _ .vmem, ⟨0, _⟩ => ⟨S2x8x8x12500, .f32⟩
  | .local _ .vmem, ⟨1, _⟩ => ⟨S2x8x8x12500, .f32⟩
  | .local _ .vmem, ⟨2, _⟩ => ⟨S2x1x8, .f32⟩
  | .local _ .vmem, ⟨3, _⟩ => ⟨S2x1x8, .f32⟩
  | .local _ .vmem, ⟨4, _⟩ => ⟨S2x1x16, .f32⟩
  | .local _ .vmem, ⟨5, _⟩ => ⟨S2x1x16, .f32⟩
  | .local _ .vmem, ⟨6, _⟩ => ⟨S2x1x16, .i32⟩
  | .local _ .vmem, ⟨7, _⟩ => ⟨S2x1x16, .i32⟩
  | .local _ .vmem, ⟨8, _⟩ => ⟨S2x1x16, .i32⟩
  | .local _ .vmem, ⟨9, _⟩ => ⟨S2x1x16, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_c_2 : Ref sig .tc := ⟨.hbm, 11, rfl⟩
abbrev main_c_3 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c2_i32 : BitVec 32 := 2#32
  let v6 : BitVec 32 := Scalar.addi c0_i32 c2_i32
  let c1_i32 : BitVec 32 := 1#32
  ⟨c0_i32, v6, c1_i32⟩
def k0_off1 (k0_t1 : Fin k0_t1_loop.trips) : Fin 3 → Nat :=
  let c0_i32 : BitVec 32 := 0#32
  let c1_i32 : BitVec 32 := 1#32
  let arg6 : BitVec 32 := Scf.iv c0_i32 c1_i32 k0_t1
  let v11 : Index := Scalar.indexCast arg6
  let c0 : Index := 0#32
  let c0_4 : Index := 0#32
  ![v11.toNat, 0, 0]
def k0_off2 (k0_t1 : Fin k0_t1_loop.trips) : Fin 3 → Nat :=
  let c0_i32 : BitVec 32 := 0#32
  let c1_i32 : BitVec 32 := 1#32
  let arg6 : BitVec 32 := Scf.iv c0_i32 c1_i32 k0_t1
  let v14 : Index := Scalar.indexCast arg6
  let c0_5 : Index := 0#32
  let c4 : Index := 4#32
  ![v14.toNat, 0, 4]
def k0_off3 (k0_t1 : Fin k0_t1_loop.trips) : Fin 4 → Nat :=
  let c0_i32 : BitVec 32 := 0#32
  let c1_i32 : BitVec 32 := 1#32
  let arg6 : BitVec 32 := Scf.iv c0_i32 c1_i32 k0_t1
  let v17 : Index := Scalar.indexCast arg6
  let c0_6 : Index := 0#32
  let c0_7 : Index := 0#32
  let c0_8 : Index := 0#32
  ![v17.toNat, 0, 0, 0]
def k0_off4 (k0_t1 : Fin k0_t1_loop.trips) : Fin 4 → Nat :=
  let c0_i32 : BitVec 32 := 0#32
  let c1_i32 : BitVec 32 := 1#32
  let arg6 : BitVec 32 := Scf.iv c0_i32 c1_i32 k0_t1
  let v23 : Index := Scalar.indexCast arg6
  let c4_9 : Index := 4#32
  let c0_10 : Index := 0#32
  let c0_11 : Index := 0#32
  ![v23.toNat, 4, 0, 0]
def k0_off5 (k0_t1 : Fin k0_t1_loop.trips) : Fin 3 → Nat :=
  let c0_i32 : BitVec 32 := 0#32
  let c1_i32 : BitVec 32 := 1#32
  let arg6 : BitVec 32 := Scf.iv c0_i32 c1_i32 k0_t1
  let v242 : Index := Scalar.indexCast arg6
  let c0_57 : Index := 0#32
  let c1 : Index := 1#32
  ![v242.toNat, 0, 1]
def k0_off6 (k0_t1 : Fin k0_t1_loop.trips) : Fin 3 → Nat :=
  let c0_i32 : BitVec 32 := 0#32
  let c1_i32 : BitVec 32 := 1#32
  let arg6 : BitVec 32 := Scf.iv c0_i32 c1_i32 k0_t1
  let v245 : Index := Scalar.indexCast arg6
  let c0_58 : Index := 0#32
  let c5 : Index := 5#32
  ![v245.toNat, 0, 5]
def k0_off7 (k0_t1 : Fin k0_t1_loop.trips) : Fin 4 → Nat :=
  let c0_i32 : BitVec 32 := 0#32
  let c1_i32 : BitVec 32 := 1#32
  let arg6 : BitVec 32 := Scf.iv c0_i32 c1_i32 k0_t1
  let v248 : Index := Scalar.indexCast arg6
  let c1_59 : Index := 1#32
  let c0_60 : Index := 0#32
  let c0_61 : Index := 0#32
  ![v248.toNat, 1, 0, 0]
def k0_off8 (k0_t1 : Fin k0_t1_loop.trips) : Fin 4 → Nat :=
  let c0_i32 : BitVec 32 := 0#32
  let c1_i32 : BitVec 32 := 1#32
  let arg6 : BitVec 32 := Scf.iv c0_i32 c1_i32 k0_t1
  let v254 : Index := Scalar.indexCast arg6
  let c5_62 : Index := 5#32
  let c0_63 : Index := 0#32
  let c0_64 : Index := 0#32
  ![v254.toNat, 5, 0, 0]
def k0_off9 (k0_t1 : Fin k0_t1_loop.trips) : Fin 3 → Nat :=
  let c0_i32 : BitVec 32 := 0#32
  let c1_i32 : BitVec 32 := 1#32
  let arg6 : BitVec 32 := Scf.iv c0_i32 c1_i32 k0_t1
  let v473 : Index := Scalar.indexCast arg6
  let c0_111 : Index := 0#32
  let c2 : Index := 2#32
  ![v473.toNat, 0, 2]
def k0_off10 (k0_t1 : Fin k0_t1_loop.trips) : Fin 3 → Nat :=
  let c0_i32 : BitVec 32 := 0#32
  let c1_i32 : BitVec 32 := 1#32
  let arg6 : BitVec 32 := Scf.iv c0_i32 c1_i32 k0_t1
  let v476 : Index := Scalar.indexCast arg6
  let c0_112 : Index := 0#32
  let c6 : Index := 6#32
  ![v476.toNat, 0, 6]
def k0_off11 (k0_t1 : Fin k0_t1_loop.trips) : Fin 4 → Nat :=
  let c0_i32 : BitVec 32 := 0#32
  let c1_i32 : BitVec 32 := 1#32
  let arg6 : BitVec 32 := Scf.iv c0_i32 c1_i32 k0_t1
  let v479 : Index := Scalar.indexCast arg6
  let c2_113 : Index := 2#32
  let c0_114 : Index := 0#32
  let c0_115 : Index := 0#32
  ![v479.toNat, 2, 0, 0]
def k0_off12 (k0_t1 : Fin k0_t1_loop.trips) : Fin 4 → Nat :=
  let c0_i32 : BitVec 32 := 0#32
  let c1_i32 : BitVec 32 := 1#32
  let arg6 : BitVec 32 := Scf.iv c0_i32 c1_i32 k0_t1
  let v485 : Index := Scalar.indexCast arg6
  let c6_116 : Index := 6#32
  let c0_117 : Index := 0#32
  let c0_118 : Index := 0#32
  ![v485.toNat, 6, 0, 0]
def k0_off13 (k0_t1 : Fin k0_t1_loop.trips) : Fin 3 → Nat :=
  let c0_i32 : BitVec 32 := 0#32
  let c1_i32 : BitVec 32 := 1#32
  let arg6 : BitVec 32 := Scf.iv c0_i32 c1_i32 k0_t1
  let v704 : Index := Scalar.indexCast arg6
  let c0_165 : Index := 0#32
  let c3 : Index := 3#32
  ![v704.toNat, 0, 3]
def k0_off14 (k0_t1 : Fin k0_t1_loop.trips) : Fin 3 → Nat :=
  let c0_i32 : BitVec 32 := 0#32
  let c1_i32 : BitVec 32 := 1#32
  let arg6 : BitVec 32 := Scf.iv c0_i32 c1_i32 k0_t1
  let v707 : Index := Scalar.indexCast arg6
  let c0_166 : Index := 0#32
  let c7 : Index := 7#32
  ![v707.toNat, 0, 7]
def k0_off15 (k0_t1 : Fin k0_t1_loop.trips) : Fin 4 → Nat :=
  let c0_i32 : BitVec 32 := 0#32
  let c1_i32 : BitVec 32 := 1#32
  let arg6 : BitVec 32 := Scf.iv c0_i32 c1_i32 k0_t1
  let v710 : Index := Scalar.indexCast arg6
  let c3_167 : Index := 3#32
  let c0_168 : Index := 0#32
  let c0_169 : Index := 0#32
  ![v710.toNat, 3, 0, 0]
def k0_off16 (k0_t1 : Fin k0_t1_loop.trips) : Fin 4 → Nat :=
  let c0_i32 : BitVec 32 := 0#32
  let c1_i32 : BitVec 32 := 1#32
  let arg6 : BitVec 32 := Scf.iv c0_i32 c1_i32 k0_t1
  let v716 : Index := Scalar.indexCast arg6
  let c7_170 : Index := 7#32
  let c0_171 : Index := 0#32
  let c0_172 : Index := 0#32
  ![v716.toNat, 7, 0, 0]
def k0_off17 (k0_t1 : Fin k0_t1_loop.trips) : Fin 3 → Nat :=
  let c0_i32 : BitVec 32 := 0#32
  let c1_i32 : BitVec 32 := 1#32
  let arg6 : BitVec 32 := Scf.iv c0_i32 c1_i32 k0_t1
  let v908 : Index := Scalar.indexCast arg6
  let c0_214 : Index := 0#32
  let c0_215 : Index := 0#32
  ![v908.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x8x8x12500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x16 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S_ : Shape := ⟨0, ![]⟩
abbrev S32x8x100000 : Shape := ⟨3, ![32, 8, 100000]⟩
abbrev S32x8x4 : Shape := ⟨3, ![32, 8, 4]⟩
abbrev S32x100000 : Shape := ⟨2, ![32, 100000]⟩
abbrev S32x2x100000 : Shape := ⟨3, ![32, 2, 100000]⟩
abbrev S32x2x4 : Shape := ⟨3, ![32, 2, 4]⟩
abbrev S32x2x1 : Shape := ⟨3, ![32, 2, 1]⟩
abbrev S32x2 : Shape := ⟨2, ![32, 2]⟩
abbrev S32x200000 : Shape := ⟨2, ![32, 200000]⟩
abbrev S32x4 : Shape := ⟨2, ![32, 4]⟩
abbrev S32 : Shape := ⟨1, ![32]⟩
abbrev S32x1 : Shape := ⟨2, ![32, 1]⟩
abbrev S32x4x1 : Shape := ⟨3, ![32, 4, 1]⟩
abbrev S32x4x2 : Shape := ⟨3, ![32, 4, 2]⟩
abbrev S32x1x100000 : Shape := ⟨3, ![32, 1, 100000]⟩
abbrev S32x4x4 : Shape := ⟨3, ![32, 4, 4]⟩
abbrev S32x16 : Shape := ⟨2, ![32, 16]⟩

abbrev nBuf : Space → Nat
  | .hbm => 449
  | .vmem => 0
  | .smem => 0
  | _ => 0

abbrev hbmTy0_0 (i : Nat) : BufTy := match i % 128 with
  | 0 => ⟨S_, .i32⟩
  | 1 => ⟨S32x8x100000, .f32⟩
  | 2 => ⟨S32x8x4, .f32⟩
  | 3 => ⟨S_, .f32⟩
  | 4 => ⟨S32x100000, .f32⟩
  | 5 => ⟨S32x2x100000, .f32⟩
  | 6 => ⟨S32x2x4, .f32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S32x2x1, .f32⟩
  | 31 => ⟨S32x2, .f32⟩
  | 32 => ⟨S32x2x1, .f32⟩
  | 33 => ⟨S32x2x100000, .f32⟩
  | 34 => ⟨S32x2x100000, .f32⟩
  | 35 => ⟨S32x200000, .f32⟩
  | 36 => ⟨S32x4, .f32⟩
  | 37 => ⟨S32x4, .i32⟩
  | 38 => ⟨S_, .i32⟩
  | 39 => ⟨S_, .i32⟩
  | 40 => ⟨S32x4, .i32⟩
  | 41 => ⟨S32x4, .i32⟩
  | 42 => ⟨S32x4, .i32⟩
  | 43 => ⟨S_, .i32⟩
  | 44 => ⟨S32x4, .i32⟩
  | 45 => ⟨S32x4, .i1⟩
  | 46 => ⟨S32x4, .i32⟩
  | 47 => ⟨S32x4, .i32⟩
  | 48 => ⟨S_, .i32⟩
  | 49 => ⟨S32x4, .i32⟩
  | 50 => ⟨S32x4, .i1⟩
  | 51 => ⟨S32x4, .i1⟩
  | 52 => ⟨S_, .i32⟩
  | 53 => ⟨S32x4, .i32⟩
  | 54 => ⟨S32x4, .i32⟩
  | 55 => ⟨S32x4, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S32x4, .i32⟩
  | 63 => ⟨S32x4, .i32⟩
  | 64 => ⟨S_, .i32⟩
  | 65 => ⟨S32x4, .i32⟩
  | 66 => ⟨S32x4, .i1⟩
  | 67 => ⟨S_, .i32⟩
  | 68 => ⟨S32x4, .i32⟩
  | 69 => ⟨S32x4, .i1⟩
  | 70 => ⟨S_, .i32⟩
  | 71 => ⟨S_, .i1⟩
  | 72 => ⟨S32x4, .i1⟩
  | 73 => ⟨S32x4, .i1⟩
  | 74 => ⟨S32x4, .i1⟩
  | 75 => ⟨S32x4, .i32⟩
  | 76 => ⟨S32x4, .i32⟩
  | 77 => ⟨S32x4, .i32⟩
  | 78 => ⟨S_, .i32⟩
  | 79 => ⟨S32x4, .i32⟩
  | 80 => ⟨S32x4, .i32⟩
  | 81 => ⟨S_, .i32⟩
  | 82 => ⟨S32x4, .i32⟩
  | 83 => ⟨S32x4, .i32⟩
  | 84 => ⟨S32, .i32⟩
  | 85 => ⟨S32x1, .i32⟩
  | 86 => ⟨S_, .i32⟩
  | 87 => ⟨S32x1, .i32⟩
  | 88 => ⟨S32x1, .i1⟩
  | 89 => ⟨S_, .i32⟩
  | 90 => ⟨S32x1, .i32⟩
  | 91 => ⟨S32x1, .i32⟩
  | 92 => ⟨S32x1, .i32⟩
  | 93 => ⟨S_, .i32⟩
  | 94 => ⟨S32x4, .i32⟩
  | 95 => ⟨S32x4, .i1⟩
  | 96 => ⟨S_, .i32⟩
  | 97 => ⟨S32x4, .i32⟩
  | 98 => ⟨S32x4, .i32⟩
  | 99 => ⟨S32x4, .i32⟩
  | 100 => ⟨S32x4, .i32⟩
  | 101 => ⟨S32x4x1, .i32⟩
  | 102 => ⟨S32x4x1, .i32⟩
  | 103 => ⟨S32x4x2, .i32⟩
  | 104 => ⟨S_, .f32⟩
  | 105 => ⟨S32x4, .f32⟩
  | 106 => ⟨S32x100000, .f32⟩
  | 107 => ⟨S32x2x100000, .f32⟩
  | 108 => ⟨S32x2x4, .f32⟩
  | 109 => ⟨S32x1x100000, .f32⟩
  | 110 => ⟨S_, .f32⟩
  | 111 => ⟨S32x1x100000, .f32⟩
  | 112 => ⟨S32x1x100000, .f32⟩
  | 113 => ⟨S32x2x100000, .f32⟩
  | 114 => ⟨S32x2x100000, .f32⟩
  | 115 => ⟨S_, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i1⟩
  | _ => ⟨S_, .i32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S32x2x1, .f32⟩
  | 11 => ⟨S32x2, .f32⟩
  | 12 => ⟨S32x2x1, .f32⟩
  | 13 => ⟨S32x2x100000, .f32⟩
  | 14 => ⟨S32x2x100000, .f32⟩
  | 15 => ⟨S32x200000, .f32⟩
  | 16 => ⟨S32x4, .f32⟩
  | 17 => ⟨S32x4, .i32⟩
  | 18 => ⟨S_, .i32⟩
  | 19 => ⟨S_, .i32⟩
  | 20 => ⟨S32x4, .i32⟩
  | 21 => ⟨S32x4, .i32⟩
  | 22 => ⟨S32x4, .i32⟩
  | 23 => ⟨S_, .i32⟩
  | 24 => ⟨S32x4, .i32⟩
  | 25 => ⟨S32x4, .i1⟩
  | 26 => ⟨S32x4, .i32⟩
  | 27 => ⟨S32x4, .i32⟩
  | 28 => ⟨S_, .i32⟩
  | 29 => ⟨S32x4, .i32⟩
  | 30 => ⟨S32x4, .i1⟩
  | 31 => ⟨S32x4, .i1⟩
  | 32 => ⟨S_, .i32⟩
  | 33 => ⟨S32x4, .i32⟩
  | 34 => ⟨S32x4, .i32⟩
  | 35 => ⟨S32x4, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S32x4, .i32⟩
  | 43 => ⟨S32x4, .i32⟩
  | 44 => ⟨S_, .i32⟩
  | 45 => ⟨S32x4, .i32⟩
  | 46 => ⟨S32x4, .i1⟩
  | 47 => ⟨S_, .i32⟩
  | 48 => ⟨S32x4, .i32⟩
  | 49 => ⟨S32x4, .i1⟩
  | 50 => ⟨S_, .i32⟩
  | 51 => ⟨S_, .i1⟩
  | 52 => ⟨S32x4, .i1⟩
  | 53 => ⟨S32x4, .i1⟩
  | 54 => ⟨S32x4, .i1⟩
  | 55 => ⟨S32x4, .i32⟩
  | 56 => ⟨S32x4, .i32⟩
  | 57 => ⟨S32x4, .i32⟩
  | 58 => ⟨S_, .i32⟩
  | 59 => ⟨S32x4, .i32⟩
  | 60 => ⟨S32x4, .i32⟩
  | 61 => ⟨S_, .i32⟩
  | 62 => ⟨S32x4, .i32⟩
  | 63 => ⟨S32x4, .i32⟩
  | 64 => ⟨S32, .i32⟩
  | 65 => ⟨S32x1, .i32⟩
  | 66 => ⟨S_, .i32⟩
  | 67 => ⟨S32x1, .i32⟩
  | 68 => ⟨S32x1, .i1⟩
  | 69 => ⟨S_, .i32⟩
  | 70 => ⟨S32x1, .i32⟩
  | 71 => ⟨S32x1, .i32⟩
  | 72 => ⟨S32x1, .i32⟩
  | 73 => ⟨S_, .i32⟩
  | 74 => ⟨S32x4, .i32⟩
  | 75 => ⟨S32x4, .i1⟩
  | 76 => ⟨S_, .i32⟩
  | 77 => ⟨S32x4, .i32⟩
  | 78 => ⟨S32x4, .i32⟩
  | 79 => ⟨S32x4, .i32⟩
  | 80 => ⟨S32x4, .i32⟩
  | 81 => ⟨S32x4x1, .i32⟩
  | 82 => ⟨S32x4x1, .i32⟩
  | 83 => ⟨S32x4x2, .i32⟩
  | 84 => ⟨S_, .f32⟩
  | 85 => ⟨S32x4, .f32⟩
  | 86 => ⟨S32x100000, .f32⟩
  | 87 => ⟨S32x2x100000, .f32⟩
  | 88 => ⟨S32x2x4, .f32⟩
  | 89 => ⟨S32x1x100000, .f32⟩
  | 90 => ⟨S_, .f32⟩
  | 91 => ⟨S32x1x100000, .f32⟩
  | 92 => ⟨S32x1x100000, .f32⟩
  | 93 => ⟨S32x2x100000, .f32⟩
  | 94 => ⟨S32x2x100000, .f32⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S32x2x1, .f32⟩
  | 119 => ⟨S32x2, .f32⟩
  | 120 => ⟨S32x2x1, .f32⟩
  | 121 => ⟨S32x2x100000, .f32⟩
  | 122 => ⟨S32x2x100000, .f32⟩
  | 123 => ⟨S32x200000, .f32⟩
  | 124 => ⟨S32x4, .f32⟩
  | 125 => ⟨S32x4, .i32⟩
  | 126 => ⟨S_, .i32⟩
  | 127 => ⟨S_, .i32⟩
  | _ => ⟨S_, .i32⟩

abbrev hbmTy0_2 (i : Nat) : BufTy := match i % 128 with
  | 0 => ⟨S32x4, .i32⟩
  | 1 => ⟨S32x4, .i32⟩
  | 2 => ⟨S32x4, .i32⟩
  | 3 => ⟨S_, .i32⟩
  | 4 => ⟨S32x4, .i32⟩
  | 5 => ⟨S32x4, .i1⟩
  | 6 => ⟨S32x4, .i32⟩
  | 7 => ⟨S32x4, .i32⟩
  | 8 => ⟨S_, .i32⟩
  | 9 => ⟨S32x4, .i32⟩
  | 10 => ⟨S32x4, .i1⟩
  | 11 => ⟨S32x4, .i1⟩
  | 12 => ⟨S_, .i32⟩
  | 13 => ⟨S32x4, .i32⟩
  | 14 => ⟨S32x4, .i32⟩
  | 15 => ⟨S32x4, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S32x4, .i32⟩
  | 23 => ⟨S32x4, .i32⟩
  | 24 => ⟨S_, .i32⟩
  | 25 => ⟨S32x4, .i32⟩
  | 26 => ⟨S32x4, .i1⟩
  | 27 => ⟨S_, .i32⟩
  | 28 => ⟨S32x4, .i32⟩
  | 29 => ⟨S32x4, .i1⟩
  | 30 => ⟨S_, .i32⟩
  | 31 => ⟨S_, .i1⟩
  | 32 => ⟨S32x4, .i1⟩
  | 33 => ⟨S32x4, .i1⟩
  | 34 => ⟨S32x4, .i1⟩
  | 35 => ⟨S32x4, .i32⟩
  | 36 => ⟨S32x4, .i32⟩
  | 37 => ⟨S32x4, .i32⟩
  | 38 => ⟨S_, .i32⟩
  | 39 => ⟨S32x4, .i32⟩
  | 40 => ⟨S32x4, .i32⟩
  | 41 => ⟨S_, .i32⟩
  | 42 => ⟨S32x4, .i32⟩
  | 43 => ⟨S32x4, .i32⟩
  | 44 => ⟨S32, .i32⟩
  | 45 => ⟨S32x1, .i32⟩
  | 46 => ⟨S_, .i32⟩
  | 47 => ⟨S32x1, .i32⟩
  | 48 => ⟨S32x1, .i1⟩
  | 49 => ⟨S_, .i32⟩
  | 50 => ⟨S32x1, .i32⟩
  | 51 => ⟨S32x1, .i32⟩
  | 52 => ⟨S32x1, .i32⟩
  | 53 => ⟨S_, .i32⟩
  | 54 => ⟨S32x4, .i32⟩
  | 55 => ⟨S32x4, .i1⟩
  | 56 => ⟨S_, .i32⟩
  | 57 => ⟨S32x4, .i32⟩
  | 58 => ⟨S32x4, .i32⟩
  | 59 => ⟨S32x4, .i32⟩
  | 60 => ⟨S32x4, .i32⟩
  | 61 => ⟨S32x4x1, .i32⟩
  | 62 => ⟨S32x4x1, .i32⟩
  | 63 => ⟨S32x4x2, .i32⟩
  | 64 => ⟨S_, .f32⟩
  | 65 => ⟨S32x4, .f32⟩
  | 66 => ⟨S32x100000, .f32⟩
  | 67 => ⟨S32x2x100000, .f32⟩
  | 68 => ⟨S32x2x4, .f32⟩
  | 69 => ⟨S32x1x100000, .f32⟩
  | 70 => ⟨S_, .f32⟩
  | 71 => ⟨S32x1x100000, .f32⟩
  | 72 => ⟨S32x1x100000, .f32⟩
  | 73 => ⟨S32x2x100000, .f32⟩
  | 74 => ⟨S32x2x100000, .f32⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S32x2x1, .f32⟩
  | 99 => ⟨S32x2, .f32⟩
  | 100 => ⟨S32x2x1, .f32⟩
  | 101 => ⟨S32x2x100000, .f32⟩
  | 102 => ⟨S32x2x100000, .f32⟩
  | 103 => ⟨S32x200000, .f32⟩
  | 104 => ⟨S32x4, .f32⟩
  | 105 => ⟨S32x4, .i32⟩
  | 106 => ⟨S_, .i32⟩
  | 107 => ⟨S_, .i32⟩
  | 108 => ⟨S32x4, .i32⟩
  | 109 => ⟨S32x4, .i32⟩
  | 110 => ⟨S32x4, .i32⟩
  | 111 => ⟨S_, .i32⟩
  | 112 => ⟨S32x4, .i32⟩
  | 113 => ⟨S32x4, .i1⟩
  | 114 => ⟨S32x4, .i32⟩
  | 115 => ⟨S32x4, .i32⟩
  | 116 => ⟨S_, .i32⟩
  | 117 => ⟨S32x4, .i32⟩
  | 118 => ⟨S32x4, .i1⟩
  | 119 => ⟨S32x4, .i1⟩
  | 120 => ⟨S_, .i32⟩
  | 121 => ⟨S32x4, .i32⟩
  | 122 => ⟨S32x4, .i32⟩
  | 123 => ⟨S32x4, .i32⟩
  | 124 => ⟨S_, .i32⟩
  | 125 => ⟨S_, .i32⟩
  | 126 => ⟨S_, .i32⟩
  | 127 => ⟨S_, .i1⟩
  | _ => ⟨S_, .i32⟩

abbrev hbmTy0_3 (i : Nat) : BufTy := match i % 128 with
  | 0 => ⟨S_, .i32⟩
  | 1 => ⟨S_, .i32⟩
  | 2 => ⟨S32x4, .i32⟩
  | 3 => ⟨S32x4, .i32⟩
  | 4 => ⟨S_, .i32⟩
  | 5 => ⟨S32x4, .i32⟩
  | 6 => ⟨S32x4, .i1⟩
  | 7 => ⟨S_, .i32⟩
  | 8 => ⟨S32x4, .i32⟩
  | 9 => ⟨S32x4, .i1⟩
  | 10 => ⟨S_, .i32⟩
  | 11 => ⟨S_, .i1⟩
  | 12 => ⟨S32x4, .i1⟩
  | 13 => ⟨S32x4, .i1⟩
  | 14 => ⟨S32x4, .i1⟩
  | 15 => ⟨S32x4, .i32⟩
  | 16 => ⟨S32x4, .i32⟩
  | 17 => ⟨S32x4, .i32⟩
  | 18 => ⟨S_, .i32⟩
  | 19 => ⟨S32x4, .i32⟩
  | 20 => ⟨S32x4, .i32⟩
  | 21 => ⟨S_, .i32⟩
  | 22 => ⟨S32x4, .i32⟩
  | 23 => ⟨S32x4, .i32⟩
  | 24 => ⟨S32, .i32⟩
  | 25 => ⟨S32x1, .i32⟩
  | 26 => ⟨S_, .i32⟩
  | 27 => ⟨S32x1, .i32⟩
  | 28 => ⟨S32x1, .i1⟩
  | 29 => ⟨S_, .i32⟩
  | 30 => ⟨S32x1, .i32⟩
  | 31 => ⟨S32x1, .i32⟩
  | 32 => ⟨S32x1, .i32⟩
  | 33 => ⟨S_, .i32⟩
  | 34 => ⟨S32x4, .i32⟩
  | 35 => ⟨S32x4, .i1⟩
  | 36 => ⟨S_, .i32⟩
  | 37 => ⟨S32x4, .i32⟩
  | 38 => ⟨S32x4, .i32⟩
  | 39 => ⟨S32x4, .i32⟩
  | 40 => ⟨S32x4, .i32⟩
  | 41 => ⟨S32x4x1, .i32⟩
  | 42 => ⟨S32x4x1, .i32⟩
  | 43 => ⟨S32x4x2, .i32⟩
  | 44 => ⟨S_, .f32⟩
  | 45 => ⟨S32x4, .f32⟩
  | 46 => ⟨S32x100000, .f32⟩
  | 47 => ⟨S32x4x1, .f32⟩
  | 48 => ⟨S32x4x1, .f32⟩
  | 49 => ⟨S32x4x1, .f32⟩
  | 50 => ⟨S32x4x1, .f32⟩
  | 51 => ⟨S32x4x4, .f32⟩
  | 52 => ⟨S32x16, .f32⟩
  | 53 => ⟨S32x4x1, .i32⟩
  | 54 => ⟨S32x4x1, .i32⟩
  | 55 => ⟨S32x4x1, .i32⟩
  | 56 => ⟨S32x4x1, .i32⟩
  | 57 => ⟨S32x4x4, .i32⟩
  | 58 => ⟨S32x16, .i32⟩
  | 59 => ⟨S32x4x1, .i32⟩
  | 60 => ⟨S32x4x1, .i32⟩
  | 61 => ⟨S32x4x1, .i32⟩
  | 62 => ⟨S32x4x1, .i32⟩
  | 63 => ⟨S32x4x4, .i32⟩
  | 64 => ⟨S32x16, .i32⟩
  | _ => ⟨S_, .i32⟩

abbrev hbmTy (i : Nat) : BufTy := match i / 128 with
  | 0 => hbmTy0_0 i
  | 1 => hbmTy0_1 i
  | 2 => hbmTy0_2 i
  | 3 => hbmTy0_3 i
  | _ => ⟨S_, .i32⟩

abbrev bufTy : (tb : Table) → Fin (tcTables nBuf tb) → BufTy
  | .hbm, ⟨i, _⟩ => hbmTy i
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_c_0 : Ref sig .tc := ⟨.hbm, 9, rfl⟩
abbrev main_c_1 : Ref sig .tc := ⟨.hbm, 10, rfl⟩
abbrev main_v4 : Ref sig .tc := ⟨.hbm, 11, rfl⟩
abbrev main_c_2 : Ref sig .tc := ⟨.hbm, 12, rfl⟩
abbrev main_c_3 : Ref sig .tc := ⟨.hbm, 13, rfl⟩
abbrev main_v5 : Ref sig .tc := ⟨.hbm, 14, rfl⟩
abbrev main_c_4 : Ref sig .tc := ⟨.hbm, 15, rfl⟩
abbrev main_v6 : Ref sig .tc := ⟨.hbm, 16, rfl⟩
abbrev main_c_5 : Ref sig .tc := ⟨.hbm, 17, rfl⟩
abbrev main_c_6 : Ref sig .tc := ⟨.hbm, 18, rfl⟩
abbrev main_v7 : Ref sig .tc := ⟨.hbm, 19, rfl⟩
abbrev main_c_7 : Ref sig .tc := ⟨.hbm, 20, rfl⟩
abbrev main_c_8 : Ref sig .tc := ⟨.hbm, 21, rfl⟩
abbrev main_v8 : Ref sig .tc := ⟨.hbm, 22, rfl⟩
abbrev main_c_9 : Ref sig .tc := ⟨.hbm, 23, rfl⟩
abbrev main_v9 : Ref sig .tc := ⟨.hbm, 24, rfl⟩
abbrev main_c_10 : Ref sig .tc := ⟨.hbm, 25, rfl⟩
abbrev main_v10 : Ref sig .tc := ⟨.hbm, 26, rfl⟩
abbrev main_c_11 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_values : Ref sig .tc := ⟨.hbm, 36, rfl⟩
abbrev main_indices : Ref sig .tc := ⟨.hbm, 37, rfl⟩
abbrev main_c_12 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v19 : Ref sig .tc := ⟨.hbm, 55, rfl⟩
abbrev main_c_13 : Ref sig .tc := ⟨.hbm, 56, rfl⟩
abbrev main_call1_v0 : Ref sig .tc := ⟨.hbm, 57, rfl⟩
abbrev main_call1_c : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_c_1 : Ref sig .tc := ⟨.hbm, 64, rfl⟩
abbrev main_call1_v5 : Ref sig .tc := ⟨.hbm, 65, rfl⟩
abbrev main_call1_v6 : Ref sig .tc := ⟨.hbm, 66, rfl⟩
abbrev main_call1_c_2 : Ref sig .tc := ⟨.hbm, 67, rfl⟩
abbrev main_call1_v7 : Ref sig .tc := ⟨.hbm, 68, rfl⟩
abbrev main_call1_v8 : Ref sig .tc := ⟨.hbm, 69, rfl⟩
abbrev main_call1_c_3 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_v20 : Ref sig .tc := ⟨.hbm, 77, rfl⟩
abbrev main_c_14 : Ref sig .tc := ⟨.hbm, 78, rfl⟩
abbrev main_v21 : Ref sig .tc := ⟨.hbm, 79, rfl⟩
abbrev main_v22 : Ref sig .tc := ⟨.hbm, 80, rfl⟩
abbrev main_c_15 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_c_16 : Ref sig .tc := ⟨.hbm, 86, rfl⟩
abbrev main_v27 : Ref sig .tc := ⟨.hbm, 87, rfl⟩
abbrev main_v28 : Ref sig .tc := ⟨.hbm, 88, rfl⟩
abbrev main_c_17 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_c_18 : Ref sig .tc := ⟨.hbm, 93, rfl⟩
abbrev main_v32 : Ref sig .tc := ⟨.hbm, 94, rfl⟩
abbrev main_v33 : Ref sig .tc := ⟨.hbm, 95, rfl⟩
abbrev main_c_19 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_cst_20 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_cst_21 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_c_22 : Ref sig .tc := ⟨.hbm, 115, rfl⟩
abbrev main_v50 : Ref sig .tc := ⟨.hbm, 116, rfl⟩
abbrev main_c_23 : Ref sig .tc := ⟨.hbm, 117, rfl⟩
abbrev main_c_24 : Ref sig .tc := ⟨.hbm, 118, rfl⟩
abbrev main_v51 : Ref sig .tc := ⟨.hbm, 119, rfl⟩
abbrev main_c_25 : Ref sig .tc := ⟨.hbm, 120, rfl⟩
abbrev main_c_26 : Ref sig .tc := ⟨.hbm, 121, rfl⟩
abbrev main_v52 : Ref sig .tc := ⟨.hbm, 122, rfl⟩
abbrev main_c_27 : Ref sig .tc := ⟨.hbm, 123, rfl⟩
abbrev main_v53 : Ref sig .tc := ⟨.hbm, 124, rfl⟩
abbrev main_c_28 : Ref sig .tc := ⟨.hbm, 125, rfl⟩
abbrev main_c_29 : Ref sig .tc := ⟨.hbm, 126, rfl⟩
abbrev main_v54 : Ref sig .tc := ⟨.hbm, 127, rfl⟩
abbrev main_c_30 : Ref sig .tc := ⟨.hbm, 128, rfl⟩
abbrev main_c_31 : Ref sig .tc := ⟨.hbm, 129, rfl⟩
abbrev main_v55 : Ref sig .tc := ⟨.hbm, 130, rfl⟩
abbrev main_c_32 : Ref sig .tc := ⟨.hbm, 131, rfl⟩
abbrev main_v56 : Ref sig .tc := ⟨.hbm, 132, rfl⟩
abbrev main_c_33 : Ref sig .tc := ⟨.hbm, 133, rfl⟩
abbrev main_v57 : Ref sig .tc := ⟨.hbm, 134, rfl⟩
abbrev main_c_34 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_values_35 : Ref sig .tc := ⟨.hbm, 144, rfl⟩
abbrev main_indices_36 : Ref sig .tc := ⟨.hbm, 145, rfl⟩
abbrev main_c_37 : Ref sig .tc := ⟨.hbm, 146, rfl⟩
abbrev main_call2_v0 : Ref sig .tc := ⟨.hbm, 147, rfl⟩
abbrev main_call2_v1 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_call2_v5 : Ref sig .tc := ⟨.hbm, 152, rfl⟩
abbrev main_call2_v6 : Ref sig .tc := ⟨.hbm, 153, rfl⟩
abbrev main_call2_v7 : Ref sig .tc := ⟨.hbm, 154, rfl⟩
abbrev main_call2_v8 : Ref sig .tc := ⟨.hbm, 155, rfl⟩
abbrev main_call2_c : Ref sig .tc := ⟨.hbm, 156, rfl⟩
abbrev main_call2_v9 : Ref sig .tc := ⟨.hbm, 157, rfl⟩
abbrev main_call2_v10 : Ref sig .tc := ⟨.hbm, 158, rfl⟩
abbrev main_call2_v11 : Ref sig .tc := ⟨.hbm, 159, rfl⟩
abbrev main_call2_c_0 : Ref sig .tc := ⟨.hbm, 160, rfl⟩
abbrev main_call2_v12 : Ref sig .tc := ⟨.hbm, 161, rfl⟩
abbrev main_call2_v13 : Ref sig .tc := ⟨.hbm, 162, rfl⟩
abbrev main_v66 : Ref sig .tc := ⟨.hbm, 163, rfl⟩
abbrev main_c_38 : Ref sig .tc := ⟨.hbm, 164, rfl⟩
abbrev main_call3_v0 : Ref sig .tc := ⟨.hbm, 165, rfl⟩
abbrev main_call3_c : Ref sig .tc := ⟨.hbm, 166, rfl⟩
abbrev main_call3_v1 : Ref sig .tc := ⟨.hbm, 167, rfl⟩
abbrev main_call3_c_0 : Ref sig .tc := ⟨.hbm, 168, rfl⟩
abbrev main_call3_v2 : Ref sig .tc := ⟨.hbm, 169, rfl⟩
abbrev main_call3_v3 : Ref sig .tc := ⟨.hbm, 170, rfl⟩
abbrev main_call3_v4 : Ref sig .tc := ⟨.hbm, 171, rfl⟩
abbrev main_call3_c_1 : Ref sig .tc := ⟨.hbm, 172, rfl⟩
abbrev main_call3_v5 : Ref sig .tc := ⟨.hbm, 173, rfl⟩
abbrev main_call3_v6 : Ref sig .tc := ⟨.hbm, 174, rfl⟩
abbrev main_call3_c_2 : Ref sig .tc := ⟨.hbm, 175, rfl⟩
abbrev main_call3_v7 : Ref sig .tc := ⟨.hbm, 176, rfl⟩
abbrev main_call3_v8 : Ref sig .tc := ⟨.hbm, 177, rfl⟩
abbrev main_call3_c_3 : Ref sig .tc := ⟨.hbm, 178, rfl⟩
abbrev main_call3_v9 : Ref sig .tc := ⟨.hbm, 179, rfl⟩
abbrev main_call3_v10 : Ref sig .tc := ⟨.hbm, 180, rfl⟩
abbrev main_call3_v11 : Ref sig .tc := ⟨.hbm, 181, rfl⟩
abbrev main_call3_v12 : Ref sig .tc := ⟨.hbm, 182, rfl⟩
abbrev main_call3_v13 : Ref sig .tc := ⟨.hbm, 183, rfl⟩
abbrev main_call3_v14 : Ref sig .tc := ⟨.hbm, 184, rfl⟩
abbrev main_v67 : Ref sig .tc := ⟨.hbm, 185, rfl⟩
abbrev main_c_39 : Ref sig .tc := ⟨.hbm, 186, rfl⟩
abbrev main_v68 : Ref sig .tc := ⟨.hbm, 187, rfl⟩
abbrev main_v69 : Ref sig .tc := ⟨.hbm, 188, rfl⟩
abbrev main_c_40 : Ref sig .tc := ⟨.hbm, 189, rfl⟩
abbrev main_v70 : Ref sig .tc := ⟨.hbm, 190, rfl⟩
abbrev main_v71 : Ref sig .tc := ⟨.hbm, 191, rfl⟩
abbrev main_v72 : Ref sig .tc := ⟨.hbm, 192, rfl⟩
abbrev main_v73 : Ref sig .tc := ⟨.hbm, 193, rfl⟩
abbrev main_c_41 : Ref sig .tc := ⟨.hbm, 194, rfl⟩
abbrev main_v74 : Ref sig .tc := ⟨.hbm, 195, rfl⟩
abbrev main_v75 : Ref sig .tc := ⟨.hbm, 196, rfl⟩
abbrev main_c_42 : Ref sig .tc := ⟨.hbm, 197, rfl⟩
abbrev main_v76 : Ref sig .tc := ⟨.hbm, 198, rfl⟩
abbrev main_v77 : Ref sig .tc := ⟨.hbm, 199, rfl⟩
abbrev main_v78 : Ref sig .tc := ⟨.hbm, 200, rfl⟩
abbrev main_c_43 : Ref sig .tc := ⟨.hbm, 201, rfl⟩
abbrev main_v79 : Ref sig .tc := ⟨.hbm, 202, rfl⟩
abbrev main_v80 : Ref sig .tc := ⟨.hbm, 203, rfl⟩
abbrev main_c_44 : Ref sig .tc := ⟨.hbm, 204, rfl⟩
abbrev main_v81 : Ref sig .tc := ⟨.hbm, 205, rfl⟩
abbrev main_v82 : Ref sig .tc := ⟨.hbm, 206, rfl⟩
abbrev main_v83 : Ref sig .tc := ⟨.hbm, 207, rfl⟩
abbrev main_v84 : Ref sig .tc := ⟨.hbm, 208, rfl⟩
abbrev main_v85 : Ref sig .tc := ⟨.hbm, 209, rfl⟩
abbrev main_v86 : Ref sig .tc := ⟨.hbm, 210, rfl⟩
abbrev main_v87 : Ref sig .tc := ⟨.hbm, 211, rfl⟩
abbrev main_cst_45 : Ref sig .tc := ⟨.hbm, 212, rfl⟩
abbrev main_v88 : Ref sig .tc := ⟨.hbm, 213, rfl⟩
abbrev main_v89 : Ref sig .tc := ⟨.hbm, 214, rfl⟩
abbrev main_v90 : Ref sig .tc := ⟨.hbm, 215, rfl⟩
abbrev main_v91 : Ref sig .tc := ⟨.hbm, 216, rfl⟩
abbrev main_v92 : Ref sig .tc := ⟨.hbm, 217, rfl⟩
abbrev main_cst_46 : Ref sig .tc := ⟨.hbm, 218, rfl⟩
abbrev main_v93 : Ref sig .tc := ⟨.hbm, 219, rfl⟩
abbrev main_v94 : Ref sig .tc := ⟨.hbm, 220, rfl⟩
abbrev main_v95 : Ref sig .tc := ⟨.hbm, 221, rfl⟩
abbrev main_v96 : Ref sig .tc := ⟨.hbm, 222, rfl⟩
abbrev main_c_47 : Ref sig .tc := ⟨.hbm, 223, rfl⟩
abbrev main_v97 : Ref sig .tc := ⟨.hbm, 224, rfl⟩
abbrev main_c_48 : Ref sig .tc := ⟨.hbm, 225, rfl⟩
abbrev main_c_49 : Ref sig .tc := ⟨.hbm, 226, rfl⟩
abbrev main_v98 : Ref sig .tc := ⟨.hbm, 227, rfl⟩
abbrev main_c_50 : Ref sig .tc := ⟨.hbm, 228, rfl⟩
abbrev main_c_51 : Ref sig .tc := ⟨.hbm, 229, rfl⟩
abbrev main_v99 : Ref sig .tc := ⟨.hbm, 230, rfl⟩
abbrev main_c_52 : Ref sig .tc := ⟨.hbm, 231, rfl⟩
abbrev main_v100 : Ref sig .tc := ⟨.hbm, 232, rfl⟩
abbrev main_c_53 : Ref sig .tc := ⟨.hbm, 233, rfl⟩
abbrev main_c_54 : Ref sig .tc := ⟨.hbm, 234, rfl⟩
abbrev main_v101 : Ref sig .tc := ⟨.hbm, 235, rfl⟩
abbrev main_c_55 : Ref sig .tc := ⟨.hbm, 236, rfl⟩
abbrev main_c_56 : Ref sig .tc := ⟨.hbm, 237, rfl⟩
abbrev main_v102 : Ref sig .tc := ⟨.hbm, 238, rfl⟩
abbrev main_c_57 : Ref sig .tc := ⟨.hbm, 239, rfl⟩
abbrev main_v103 : Ref sig .tc := ⟨.hbm, 240, rfl⟩
abbrev main_c_58 : Ref sig .tc := ⟨.hbm, 241, rfl⟩
abbrev main_v104 : Ref sig .tc := ⟨.hbm, 242, rfl⟩
abbrev main_c_59 : Ref sig .tc := ⟨.hbm, 243, rfl⟩
abbrev main_v105 : Ref sig .tc := ⟨.hbm, 244, rfl⟩
abbrev main_v106 : Ref sig .tc := ⟨.hbm, 245, rfl⟩
abbrev main_v107 : Ref sig .tc := ⟨.hbm, 246, rfl⟩
abbrev main_v108 : Ref sig .tc := ⟨.hbm, 247, rfl⟩
abbrev main_v109 : Ref sig .tc := ⟨.hbm, 248, rfl⟩
abbrev main_v110 : Ref sig .tc := ⟨.hbm, 249, rfl⟩
abbrev main_v111 : Ref sig .tc := ⟨.hbm, 250, rfl⟩
abbrev main_v112 : Ref sig .tc := ⟨.hbm, 251, rfl⟩
abbrev main_values_60 : Ref sig .tc := ⟨.hbm, 252, rfl⟩
abbrev main_indices_61 : Ref sig .tc := ⟨.hbm, 253, rfl⟩
abbrev main_c_62 : Ref sig .tc := ⟨.hbm, 254, rfl⟩
abbrev main_call4_v0 : Ref sig .tc := ⟨.hbm, 255, rfl⟩
abbrev main_call4_v1 : Ref sig .tc := ⟨.hbm, 256, rfl⟩
abbrev main_call4_v2 : Ref sig .tc := ⟨.hbm, 257, rfl⟩
abbrev main_call4_v3 : Ref sig .tc := ⟨.hbm, 258, rfl⟩
abbrev main_call4_v4 : Ref sig .tc := ⟨.hbm, 259, rfl⟩
abbrev main_call4_v5 : Ref sig .tc := ⟨.hbm, 260, rfl⟩
abbrev main_call4_v6 : Ref sig .tc := ⟨.hbm, 261, rfl⟩
abbrev main_call4_v7 : Ref sig .tc := ⟨.hbm, 262, rfl⟩
abbrev main_call4_v8 : Ref sig .tc := ⟨.hbm, 263, rfl⟩
abbrev main_call4_c : Ref sig .tc := ⟨.hbm, 264, rfl⟩
abbrev main_call4_v9 : Ref sig .tc := ⟨.hbm, 265, rfl⟩
abbrev main_call4_v10 : Ref sig .tc := ⟨.hbm, 266, rfl⟩
abbrev main_call4_v11 : Ref sig .tc := ⟨.hbm, 267, rfl⟩
abbrev main_call4_c_0 : Ref sig .tc := ⟨.hbm, 268, rfl⟩
abbrev main_call4_v12 : Ref sig .tc := ⟨.hbm, 269, rfl⟩
abbrev main_call4_v13 : Ref sig .tc := ⟨.hbm, 270, rfl⟩
abbrev main_v113 : Ref sig .tc := ⟨.hbm, 271, rfl⟩
abbrev main_c_63 : Ref sig .tc := ⟨.hbm, 272, rfl⟩
abbrev main_call5_v0 : Ref sig .tc := ⟨.hbm, 273, rfl⟩
abbrev main_call5_c : Ref sig .tc := ⟨.hbm, 274, rfl⟩
abbrev main_call5_v1 : Ref sig .tc := ⟨.hbm, 275, rfl⟩
abbrev main_call5_c_0 : Ref sig .tc := ⟨.hbm, 276, rfl⟩
abbrev main_call5_v2 : Ref sig .tc := ⟨.hbm, 277, rfl⟩
abbrev main_call5_v3 : Ref sig .tc := ⟨.hbm, 278, rfl⟩
abbrev main_call5_v4 : Ref sig .tc := ⟨.hbm, 279, rfl⟩
abbrev main_call5_c_1 : Ref sig .tc := ⟨.hbm, 280, rfl⟩
abbrev main_call5_v5 : Ref sig .tc := ⟨.hbm, 281, rfl⟩
abbrev main_call5_v6 : Ref sig .tc := ⟨.hbm, 282, rfl⟩
abbrev main_call5_c_2 : Ref sig .tc := ⟨.hbm, 283, rfl⟩
abbrev main_call5_v7 : Ref sig .tc := ⟨.hbm, 284, rfl⟩
abbrev main_call5_v8 : Ref sig .tc := ⟨.hbm, 285, rfl⟩
abbrev main_call5_c_3 : Ref sig .tc := ⟨.hbm, 286, rfl⟩
abbrev main_call5_v9 : Ref sig .tc := ⟨.hbm, 287, rfl⟩
abbrev main_call5_v10 : Ref sig .tc := ⟨.hbm, 288, rfl⟩
abbrev main_call5_v11 : Ref sig .tc := ⟨.hbm, 289, rfl⟩
abbrev main_call5_v12 : Ref sig .tc := ⟨.hbm, 290, rfl⟩
abbrev main_call5_v13 : Ref sig .tc := ⟨.hbm, 291, rfl⟩
abbrev main_call5_v14 : Ref sig .tc := ⟨.hbm, 292, rfl⟩
abbrev main_v114 : Ref sig .tc := ⟨.hbm, 293, rfl⟩
abbrev main_c_64 : Ref sig .tc := ⟨.hbm, 294, rfl⟩
abbrev main_v115 : Ref sig .tc := ⟨.hbm, 295, rfl⟩
abbrev main_v116 : Ref sig .tc := ⟨.hbm, 296, rfl⟩
abbrev main_c_65 : Ref sig .tc := ⟨.hbm, 297, rfl⟩
abbrev main_v117 : Ref sig .tc := ⟨.hbm, 298, rfl⟩
abbrev main_v118 : Ref sig .tc := ⟨.hbm, 299, rfl⟩
abbrev main_v119 : Ref sig .tc := ⟨.hbm, 300, rfl⟩
abbrev main_v120 : Ref sig .tc := ⟨.hbm, 301, rfl⟩
abbrev main_c_66 : Ref sig .tc := ⟨.hbm, 302, rfl⟩
abbrev main_v121 : Ref sig .tc := ⟨.hbm, 303, rfl⟩
abbrev main_v122 : Ref sig .tc := ⟨.hbm, 304, rfl⟩
abbrev main_c_67 : Ref sig .tc := ⟨.hbm, 305, rfl⟩
abbrev main_v123 : Ref sig .tc := ⟨.hbm, 306, rfl⟩
abbrev main_v124 : Ref sig .tc := ⟨.hbm, 307, rfl⟩
abbrev main_v125 : Ref sig .tc := ⟨.hbm, 308, rfl⟩
abbrev main_c_68 : Ref sig .tc := ⟨.hbm, 309, rfl⟩
abbrev main_v126 : Ref sig .tc := ⟨.hbm, 310, rfl⟩
abbrev main_v127 : Ref sig .tc := ⟨.hbm, 311, rfl⟩
abbrev main_c_69 : Ref sig .tc := ⟨.hbm, 312, rfl⟩
abbrev main_v128 : Ref sig .tc := ⟨.hbm, 313, rfl⟩
abbrev main_v129 : Ref sig .tc := ⟨.hbm, 314, rfl⟩
abbrev main_v130 : Ref sig .tc := ⟨.hbm, 315, rfl⟩
abbrev main_v131 : Ref sig .tc := ⟨.hbm, 316, rfl⟩
abbrev main_v132 : Ref sig .tc := ⟨.hbm, 317, rfl⟩
abbrev main_v133 : Ref sig .tc := ⟨.hbm, 318, rfl⟩
abbrev main_v134 : Ref sig .tc := ⟨.hbm, 319, rfl⟩
abbrev main_cst_70 : Ref sig .tc := ⟨.hbm, 320, rfl⟩
abbrev main_v135 : Ref sig .tc := ⟨.hbm, 321, rfl⟩
abbrev main_v136 : Ref sig .tc := ⟨.hbm, 322, rfl⟩
abbrev main_v137 : Ref sig .tc := ⟨.hbm, 323, rfl⟩
abbrev main_v138 : Ref sig .tc := ⟨.hbm, 324, rfl⟩
abbrev main_v139 : Ref sig .tc := ⟨.hbm, 325, rfl⟩
abbrev main_cst_71 : Ref sig .tc := ⟨.hbm, 326, rfl⟩
abbrev main_v140 : Ref sig .tc := ⟨.hbm, 327, rfl⟩
abbrev main_v141 : Ref sig .tc := ⟨.hbm, 328, rfl⟩
abbrev main_v142 : Ref sig .tc := ⟨.hbm, 329, rfl⟩
abbrev main_v143 : Ref sig .tc := ⟨.hbm, 330, rfl⟩
abbrev main_c_72 : Ref sig .tc := ⟨.hbm, 331, rfl⟩
abbrev main_v144 : Ref sig .tc := ⟨.hbm, 332, rfl⟩
abbrev main_c_73 : Ref sig .tc := ⟨.hbm, 333, rfl⟩
abbrev main_c_74 : Ref sig .tc := ⟨.hbm, 334, rfl⟩
abbrev main_v145 : Ref sig .tc := ⟨.hbm, 335, rfl⟩
abbrev main_c_75 : Ref sig .tc := ⟨.hbm, 336, rfl⟩
abbrev main_c_76 : Ref sig .tc := ⟨.hbm, 337, rfl⟩
abbrev main_v146 : Ref sig .tc := ⟨.hbm, 338, rfl⟩
abbrev main_c_77 : Ref sig .tc := ⟨.hbm, 339, rfl⟩
abbrev main_v147 : Ref sig .tc := ⟨.hbm, 340, rfl⟩
abbrev main_c_78 : Ref sig .tc := ⟨.hbm, 341, rfl⟩
abbrev main_c_79 : Ref sig .tc := ⟨.hbm, 342, rfl⟩
abbrev main_v148 : Ref sig .tc := ⟨.hbm, 343, rfl⟩
abbrev main_c_80 : Ref sig .tc := ⟨.hbm, 344, rfl⟩
abbrev main_c_81 : Ref sig .tc := ⟨.hbm, 345, rfl⟩
abbrev main_v149 : Ref sig .tc := ⟨.hbm, 346, rfl⟩
abbrev main_c_82 : Ref sig .tc := ⟨.hbm, 347, rfl⟩
abbrev main_v150 : Ref sig .tc := ⟨.hbm, 348, rfl⟩
abbrev main_c_83 : Ref sig .tc := ⟨.hbm, 349, rfl⟩
abbrev main_v151 : Ref sig .tc := ⟨.hbm, 350, rfl⟩
abbrev main_c_84 : Ref sig .tc := ⟨.hbm, 351, rfl⟩
abbrev main_v152 : Ref sig .tc := ⟨.hbm, 352, rfl⟩
abbrev main_v153 : Ref sig .tc := ⟨.hbm, 353, rfl⟩
abbrev main_v154 : Ref sig .tc := ⟨.hbm, 354, rfl⟩
abbrev main_v155 : Ref sig .tc := ⟨.hbm, 355, rfl⟩
abbrev main_v156 : Ref sig .tc := ⟨.hbm, 356, rfl⟩
abbrev main_v157 : Ref sig .tc := ⟨.hbm, 357, rfl⟩
abbrev main_v158 : Ref sig .tc := ⟨.hbm, 358, rfl⟩
abbrev main_v159 : Ref sig .tc := ⟨.hbm, 359, rfl⟩
abbrev main_values_85 : Ref sig .tc := ⟨.hbm, 360, rfl⟩
abbrev main_indices_86 : Ref sig .tc := ⟨.hbm, 361, rfl⟩
abbrev main_c_87 : Ref sig .tc := ⟨.hbm, 362, rfl⟩
abbrev main_call6_v0 : Ref sig .tc := ⟨.hbm, 363, rfl⟩
abbrev main_call6_v1 : Ref sig .tc := ⟨.hbm, 364, rfl⟩
abbrev main_call6_v2 : Ref sig .tc := ⟨.hbm, 365, rfl⟩
abbrev main_call6_v3 : Ref sig .tc := ⟨.hbm, 366, rfl⟩
abbrev main_call6_v4 : Ref sig .tc := ⟨.hbm, 367, rfl⟩
abbrev main_call6_v5 : Ref sig .tc := ⟨.hbm, 368, rfl⟩
abbrev main_call6_v6 : Ref sig .tc := ⟨.hbm, 369, rfl⟩
abbrev main_call6_v7 : Ref sig .tc := ⟨.hbm, 370, rfl⟩
abbrev main_call6_v8 : Ref sig .tc := ⟨.hbm, 371, rfl⟩
abbrev main_call6_c : Ref sig .tc := ⟨.hbm, 372, rfl⟩
abbrev main_call6_v9 : Ref sig .tc := ⟨.hbm, 373, rfl⟩
abbrev main_call6_v10 : Ref sig .tc := ⟨.hbm, 374, rfl⟩
abbrev main_call6_v11 : Ref sig .tc := ⟨.hbm, 375, rfl⟩
abbrev main_call6_c_0 : Ref sig .tc := ⟨.hbm, 376, rfl⟩
abbrev main_call6_v12 : Ref sig .tc := ⟨.hbm, 377, rfl⟩
abbrev main_call6_v13 : Ref sig .tc := ⟨.hbm, 378, rfl⟩
abbrev main_v160 : Ref sig .tc := ⟨.hbm, 379, rfl⟩
abbrev main_c_88 : Ref sig .tc := ⟨.hbm, 380, rfl⟩
abbrev main_call7_v0 : Ref sig .tc := ⟨.hbm, 381, rfl⟩
abbrev main_call7_c : Ref sig .tc := ⟨.hbm, 382, rfl⟩
abbrev main_call7_v1 : Ref sig .tc := ⟨.hbm, 383, rfl⟩
abbrev main_call7_c_0 : Ref sig .tc := ⟨.hbm, 384, rfl⟩
abbrev main_call7_v2 : Ref sig .tc := ⟨.hbm, 385, rfl⟩
abbrev main_call7_v3 : Ref sig .tc := ⟨.hbm, 386, rfl⟩
abbrev main_call7_v4 : Ref sig .tc := ⟨.hbm, 387, rfl⟩
abbrev main_call7_c_1 : Ref sig .tc := ⟨.hbm, 388, rfl⟩
abbrev main_call7_v5 : Ref sig .tc := ⟨.hbm, 389, rfl⟩
abbrev main_call7_v6 : Ref sig .tc := ⟨.hbm, 390, rfl⟩
abbrev main_call7_c_2 : Ref sig .tc := ⟨.hbm, 391, rfl⟩
abbrev main_call7_v7 : Ref sig .tc := ⟨.hbm, 392, rfl⟩
abbrev main_call7_v8 : Ref sig .tc := ⟨.hbm, 393, rfl⟩
abbrev main_call7_c_3 : Ref sig .tc := ⟨.hbm, 394, rfl⟩
abbrev main_call7_v9 : Ref sig .tc := ⟨.hbm, 395, rfl⟩
abbrev main_call7_v10 : Ref sig .tc := ⟨.hbm, 396, rfl⟩
abbrev main_call7_v11 : Ref sig .tc := ⟨.hbm, 397, rfl⟩
abbrev main_call7_v12 : Ref sig .tc := ⟨.hbm, 398, rfl⟩
abbrev main_call7_v13 : Ref sig .tc := ⟨.hbm, 399, rfl⟩
abbrev main_call7_v14 : Ref sig .tc := ⟨.hbm, 400, rfl⟩
abbrev main_v161 : Ref sig .tc := ⟨.hbm, 401, rfl⟩
abbrev main_c_89 : Ref sig .tc := ⟨.hbm, 402, rfl⟩
abbrev main_v162 : Ref sig .tc := ⟨.hbm, 403, rfl⟩
abbrev main_v163 : Ref sig .tc := ⟨.hbm, 404, rfl⟩
abbrev main_c_90 : Ref sig .tc := ⟨.hbm, 405, rfl⟩
abbrev main_v164 : Ref sig .tc := ⟨.hbm, 406, rfl⟩
abbrev main_v165 : Ref sig .tc := ⟨.hbm, 407, rfl⟩
abbrev main_v166 : Ref sig .tc := ⟨.hbm, 408, rfl⟩
abbrev main_v167 : Ref sig .tc := ⟨.hbm, 409, rfl⟩
abbrev main_c_91 : Ref sig .tc := ⟨.hbm, 410, rfl⟩
abbrev main_v168 : Ref sig .tc := ⟨.hbm, 411, rfl⟩
abbrev main_v169 : Ref sig .tc := ⟨.hbm, 412, rfl⟩
abbrev main_c_92 : Ref sig .tc := ⟨.hbm, 413, rfl⟩
abbrev main_v170 : Ref sig .tc := ⟨.hbm, 414, rfl⟩
abbrev main_v171 : Ref sig .tc := ⟨.hbm, 415, rfl⟩
abbrev main_v172 : Ref sig .tc := ⟨.hbm, 416, rfl⟩
abbrev main_c_93 : Ref sig .tc := ⟨.hbm, 417, rfl⟩
abbrev main_v173 : Ref sig .tc := ⟨.hbm, 418, rfl⟩
abbrev main_v174 : Ref sig .tc := ⟨.hbm, 419, rfl⟩
abbrev main_c_94 : Ref sig .tc := ⟨.hbm, 420, rfl⟩
abbrev main_v175 : Ref sig .tc := ⟨.hbm, 421, rfl⟩
abbrev main_v176 : Ref sig .tc := ⟨.hbm, 422, rfl⟩
abbrev main_v177 : Ref sig .tc := ⟨.hbm, 423, rfl⟩
abbrev main_v178 : Ref sig .tc := ⟨.hbm, 424, rfl⟩
abbrev main_v179 : Ref sig .tc := ⟨.hbm, 425, rfl⟩
abbrev main_v180 : Ref sig .tc := ⟨.hbm, 426, rfl⟩
abbrev main_v181 : Ref sig .tc := ⟨.hbm, 427, rfl⟩
abbrev main_cst_95 : Ref sig .tc := ⟨.hbm, 428, rfl⟩
abbrev main_v182 : Ref sig .tc := ⟨.hbm, 429, rfl⟩
abbrev main_v183 : Ref sig .tc := ⟨.hbm, 430, rfl⟩
abbrev main_v184 : Ref sig .tc := ⟨.hbm, 431, rfl⟩
abbrev main_v185 : Ref sig .tc := ⟨.hbm, 432, rfl⟩
abbrev main_v186 : Ref sig .tc := ⟨.hbm, 433, rfl⟩
abbrev main_v187 : Ref sig .tc := ⟨.hbm, 434, rfl⟩
abbrev main_v188 : Ref sig .tc := ⟨.hbm, 435, rfl⟩
abbrev main_v189 : Ref sig .tc := ⟨.hbm, 436, rfl⟩
abbrev main_v190 : Ref sig .tc := ⟨.hbm, 437, rfl⟩
abbrev main_v191 : Ref sig .tc := ⟨.hbm, 438, rfl⟩
abbrev main_v192 : Ref sig .tc := ⟨.hbm, 439, rfl⟩
abbrev main_v193 : Ref sig .tc := ⟨.hbm, 440, rfl⟩
abbrev main_v194 : Ref sig .tc := ⟨.hbm, 441, rfl⟩
abbrev main_v195 : Ref sig .tc := ⟨.hbm, 442, rfl⟩
abbrev main_v196 : Ref sig .tc := ⟨.hbm, 443, rfl⟩
abbrev main_v197 : Ref sig .tc := ⟨.hbm, 444, rfl⟩
abbrev main_v198 : Ref sig .tc := ⟨.hbm, 445, rfl⟩
abbrev main_v199 : Ref sig .tc := ⟨.hbm, 446, rfl⟩
abbrev main_v200 : Ref sig .tc := ⟨.hbm, 447, rfl⟩
abbrev main_v201 : Ref sig .tc := ⟨.hbm, 448, rfl⟩

abbrev nD : Nat := 1
abbrev τ : Topo := Topo.v7x

variable {F : FTy → Type} [FloatOps F]
-- ==== Proof.Frames.lean ====
/- The frames of the three programs and the ledger of the named constant. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof.Beam

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The certificate's table names the mask `⊥`. -/
theorem preserves : Cert.preserves_Kernel_KernelIdeal :=
  IdealRules.named_const.statement Cert.KernelIdeal.κ "mask" .f32 0xFF61B1E6#32 ⊥ rfl

end Cert.Proof.Beam

end
-- ==== Proof.Pick.lean ====
/- One trip of the kernel's loop over the rows of a block, read as a selection machine: `kmax`, `kany`, `km`, `ktok`,
   `knextA`, `knextB` are one pick over the two halves of a group, `kS` the two halves after the picks before the `i`-th
   of group `g`, `kpen` the penalty a group starts from. The lemmas say that each value the trip computes is the
   machine's. -/
module

public import proofs.«01_k».proof.Proof.Gen.KernelIdeal.Frame

@[expose] public section

set_option maxRecDepth 65536

noncomputable section

namespace Cert.Proof.Beam

open Idealize.ShloMosaic Idealize.SL.Sem Cert.KernelIdeal Cert.KernelIdeal.Gen

/-- One half of a group: a beam's scores, laid out in eight rows. -/
abbrev Half := FVec Ideal S8x12500 .f32

/-- The literal that stands for no position. -/
abbrev big : BitVec 32 := 1073741824#32

/-- The mask, by its name. -/
abbrev kmask : Half := broadcast S8x12500 (Named.named (F := Ideal) κ "mask" 0xFF61B1E6#32)

/-- The largest score of a half. -/
def kmax (a : Half) : Ideal .f32 :=
  extractAt ![0, 0, 0] (shapeCast S1x1x1 (multiReduction (F := Ideal) .maximumf [1, 2] S1
    (shapeCast S1x8x12500 a shapeCasts_S8x12500_S1x8x12500) 0xFF800000#32 reduces_S1x8x12500_S1 (.inl rfl) rfl)
    shapeCasts_S1_S1x1x1) inpos_S1x1x1_p0_0_0

/-- The least position of a half whose score is `m`. -/
def kix (a : Half) (m : Ideal .f32) : BitVec 32 :=
  extractAt ![0, 0, 0] (shapeCast S1x1x1 (multiReductionI .minsi [1, 2] S1
    (shapeCast S1x8x12500 (select (cmpf .oeq a (broadcast S8x12500 m)) k0_pay1 (broadcast S8x12500 big))
      shapeCasts_S8x12500_S1x8x12500) 2147483647#32 reduces_S1x8x12500_S1 rfl) shapeCasts_S1_S1x1x1) inpos_S1x1x1_p0_0_0

/-- The first half holds the maximum. -/
def kany (a b : Half) : BitVec 1 := Scalar.cmpf (F := Ideal) .oge (kmax a) (kmax b)

/-- The maximum of the two halves. -/
def km (a b : Half) : Ideal .f32 := Scalar.maximumf (F := Ideal) (kmax a) (kmax b)

/-- The token picked. -/
def ktok (a b : Half) : BitVec 32 := Scalar.select (kany a b) (kix a (km a b)) (kix b (km a b))

/-- The beam picked, of group `g`. -/
def kbeam (g : BitVec 32) (a b : Half) : BitVec 32 :=
  Scalar.addi (Scalar.muli (Scalar.select (kany a b) 0#32 1#32) 4#32) g

/-- The first half after the pick. -/
def knextA (a b : Half) : Half :=
  select (andi (cmpi .eq k0_pay1 (broadcast S8x12500 (ktok a b))) (broadcast S8x12500 (kany a b))) kmask a

/-- The second half after the pick. -/
def knextB (a b : Half) : Half :=
  select (andi (cmpi .eq k0_pay1 (broadcast S8x12500 (ktok a b))) (broadcast S8x12500 (Scalar.xori (kany a b) 1#1)))
    kmask b

/-- The penalty of one token. -/
def khit (t : BitVec 32) : Half :=
  mulf (F := Ideal) (broadcast S8x12500 (FloatOps.ofBits (F := Ideal) .f32 0x3F000000#32))
    (sitofp (F := Ideal) .f32 (extui 32 (cmpi .eq k0_pay1 (broadcast S8x12500 t)) (by decide)))

/-- What a row of the kernel reads: per group, the two halves and their biases. -/
structure RowIn where
  xa : ℕ → Half
  xb : ℕ → Half
  ba : ℕ → Ideal .f32
  bb : ℕ → Ideal .f32

/-- The two halves of group `g` at the start, under the penalty `p`. -/
def kini (e : RowIn) (g : ℕ) (p : Half) : Half × Half :=
  (subf (F := Ideal) (addf (F := Ideal) (e.xa g) (broadcast S8x12500 (e.ba g))) p,
   subf (F := Ideal) (addf (F := Ideal) (e.xb g) (broadcast S8x12500 (e.bb g))) p)

/-- The two halves after `i` picks. -/
def kiter (s : Half × Half) : ℕ → Half × Half
  | 0 => s
  | i + 1 => (knextA (kiter s i).1 (kiter s i).2, knextB (kiter s i).1 (kiter s i).2)

/-- The penalty group `g` starts from. -/
def kpen (e : RowIn) : ℕ → Half
  | 0 => broadcast S8x12500 (FloatOps.ofBits (F := Ideal) .f32 0x00000000#32)
  | g + 1 =>
    addf (F := Ideal) (addf (F := Ideal) (addf (F := Ideal) (addf (F := Ideal) (kpen e g)
      (khit (ktok (kiter (kini e g (kpen e g)) 0).1 (kiter (kini e g (kpen e g)) 0).2)))
      (khit (ktok (kiter (kini e g (kpen e g)) 1).1 (kiter (kini e g (kpen e g)) 1).2)))
      (khit (ktok (kiter (kini e g (kpen e g)) 2).1 (kiter (kini e g (kpen e g)) 2).2)))
      (khit (ktok (kiter (kini e g (kpen e g)) 3).1 (kiter (kini e g (kpen e g)) 3).2))

/-- The two halves of group `g` before its pick `i`. -/
def kS (e : RowIn) (g i : ℕ) : Half × Half := kiter (kini e g (kpen e g)) i

theorem kS_zero (e : RowIn) (g : ℕ) : kS e g 0 = kini e g (kpen e g) := rfl

theorem kS_succ (e : RowIn) (g i : ℕ) :
    kS e g (i + 1) = (knextA (kS e g i).1 (kS e g i).2, knextB (kS e g i).1 (kS e g i).2) := rfl

theorem kpen_succ (e : RowIn) (g : ℕ) :
    kpen e (g + 1) = addf (F := Ideal) (addf (F := Ideal) (addf (F := Ideal) (addf (F := Ideal) (kpen e g)
      (khit (ktok (kS e g 0).1 (kS e g 0).2))) (khit (ktok (kS e g 1).1 (kS e g 1).2)))
      (khit (ktok (kS e g 2).1 (kS e g 2).2))) (khit (ktok (kS e g 3).1 (kS e g 3).2)) := rfl

/-- `val` written at the slot `s`. -/
def kput {α : Type} (v5 : IVec S1x1x16 32) (s : BitVec 32) (val : α) (prev : S1x1x16.Idx → α) : S1x1x16.Idx → α :=
  select (cmpi .eq v5 (broadcast S1x1x16 s)) (broadcast S1x1x16 val) prev

section Trip

variable (arg1 : Memref sig .tc .vmem S2x8x8x12500 .f32) (arg2 : Memref sig .tc .vmem S2x1x8 .f32)
  (v5 : IVec S1x1x16 32) (X_arg1 : BufTy.Contents (Elt Ideal) arg1.view.ty)
  (X_arg2 : BufTy.Contents (Elt Ideal) arg2.view.ty) (k : Fin k0_t1_loop.trips)

/-- What the trip reads. -/
def tripIn : RowIn where
  xa g := match g with
    | 0 => shapeCast S8x12500 (View.readAt (Elt Ideal) arg1.view (Rect.unit (s := S2x8x8x12500) (k0_off3 k) S1x1x8x12500.size (k0_off3_inb k)).toLoadRect X_arg1) shapeCasts_S1x1x8x12500_S8x12500
    | 1 => shapeCast S8x12500 (View.readAt (Elt Ideal) arg1.view (Rect.unit (s := S2x8x8x12500) (k0_off7 k) S1x1x8x12500.size (k0_off7_inb k)).toLoadRect X_arg1) shapeCasts_S1x1x8x12500_S8x12500
    | 2 => shapeCast S8x12500 (View.readAt (Elt Ideal) arg1.view (Rect.unit (s := S2x8x8x12500) (k0_off11 k) S1x1x8x12500.size (k0_off11_inb k)).toLoadRect X_arg1) shapeCasts_S1x1x8x12500_S8x12500
    | _ => shapeCast S8x12500 (View.readAt (Elt Ideal) arg1.view (Rect.unit (s := S2x8x8x12500) (k0_off15 k) S1x1x8x12500.size (k0_off15_inb k)).toLoadRect X_arg1) shapeCasts_S1x1x8x12500_S8x12500
  xb g := match g with
    | 0 => shapeCast S8x12500 (View.readAt (Elt Ideal) arg1.view (Rect.unit (s := S2x8x8x12500) (k0_off4 k) S1x1x8x12500.size (k0_off4_inb k)).toLoadRect X_arg1) shapeCasts_S1x1x8x12500_S8x12500
    | 1 => shapeCast S8x12500 (View.readAt (Elt Ideal) arg1.view (Rect.unit (s := S2x8x8x12500) (k0_off8 k) S1x1x8x12500.size (k0_off8_inb k)).toLoadRect X_arg1) shapeCasts_S1x1x8x12500_S8x12500
    | 2 => shapeCast S8x12500 (View.readAt (Elt Ideal) arg1.view (Rect.unit (s := S2x8x8x12500) (k0_off12 k) S1x1x8x12500.size (k0_off12_inb k)).toLoadRect X_arg1) shapeCasts_S1x1x8x12500_S8x12500
    | _ => shapeCast S8x12500 (View.readAt (Elt Ideal) arg1.view (Rect.unit (s := S2x8x8x12500) (k0_off16 k) S1x1x8x12500.size (k0_off16_inb k)).toLoadRect X_arg1) shapeCasts_S1x1x8x12500_S8x12500
  ba g := match g with
    | 0 => extractAt ![0, 0, 0] (View.readAt (Elt Ideal) arg2.view (Rect.unit (s := S2x1x8) (k0_off1 k) S1x1x1.size (k0_off1_inb k)).toLoadRect X_arg2) inpos_S1x1x1_p0_0_0
    | 1 => extractAt ![0, 0, 0] (View.readAt (Elt Ideal) arg2.view (Rect.unit (s := S2x1x8) (k0_off5 k) S1x1x1.size (k0_off5_inb k)).toLoadRect X_arg2) inpos_S1x1x1_p0_0_0
    | 2 => extractAt ![0, 0, 0] (View.readAt (Elt Ideal) arg2.view (Rect.unit (s := S2x1x8) (k0_off9 k) S1x1x1.size (k0_off9_inb k)).toLoadRect X_arg2) inpos_S1x1x1_p0_0_0
    | _ => extractAt ![0, 0, 0] (View.readAt (Elt Ideal) arg2.view (Rect.unit (s := S2x1x8) (k0_off13 k) S1x1x1.size (k0_off13_inb k)).toLoadRect X_arg2) inpos_S1x1x1_p0_0_0
  bb g := match g with
    | 0 => extractAt ![0, 0, 0] (View.readAt (Elt Ideal) arg2.view (Rect.unit (s := S2x1x8) (k0_off2 k) S1x1x1.size (k0_off2_inb k)).toLoadRect X_arg2) inpos_S1x1x1_p0_0_0
    | 1 => extractAt ![0, 0, 0] (View.readAt (Elt Ideal) arg2.view (Rect.unit (s := S2x1x8) (k0_off6 k) S1x1x1.size (k0_off6_inb k)).toLoadRect X_arg2) inpos_S1x1x1_p0_0_0
    | 2 => extractAt ![0, 0, 0] (View.readAt (Elt Ideal) arg2.view (Rect.unit (s := S2x1x8) (k0_off10 k) S1x1x1.size (k0_off10_inb k)).toLoadRect X_arg2) inpos_S1x1x1_p0_0_0
    | _ => extractAt ![0, 0, 0] (View.readAt (Elt Ideal) arg2.view (Rect.unit (s := S2x1x8) (k0_off14 k) S1x1x1.size (k0_off14_inb k)).toLoadRect X_arg2) inpos_S1x1x1_p0_0_0

theorem A_00 : ((trip_k0_t1.sl.v22 (F := Ideal) arg1 arg2 X_arg1 X_arg2 k), (trip_k0_t1.sl.v28 (F := Ideal) arg1 arg2 X_arg1 X_arg2 k)) = kini (tripIn arg1 arg2 X_arg1 X_arg2 k) 0 (kpen (tripIn arg1 arg2 X_arg1 X_arg2 k) 0) := rfl
theorem T_00 : (trip_k0_t1.sl.v55 (F := Ideal) arg1 arg2 X_arg1 X_arg2 k) = ktok (trip_k0_t1.sl.v22 (F := Ideal) arg1 arg2 X_arg1 X_arg2 k) (trip_k0_t1.sl.v28 (F := Ideal) arg1 arg2 X_arg1 X_arg2 k) := rfl
theorem P_00 : (trip_k0_t1.sl.r (F := Ideal) arg1 arg2 v5 X_arg1 X_arg2 k) = kput v5 0#32 (km (trip_k0_t1.sl.v22 (F := Ideal) arg1 arg2 X_arg1 X_arg2 k) (trip_k0_t1.sl.v28 (F := Ideal) arg1 arg2 X_arg1 X_arg2 k)) (broadcast S1x1x16 (FloatOps.ofBits (F := Ideal) .f32 0x00000000#32)) := rfl
theorem I_00 : (trip_k0_t1.sl.r_1 (F := Ideal) arg1 arg2 v5 X_arg1 X_arg2 k) = kput v5 0#32 (ktok (trip_k0_t1.sl.v22 (F := Ideal) arg1 arg2 X_arg1 X_arg2 k) (trip_k0_t1.sl.v28 (F := Ideal) arg1 arg2 X_arg1 X_arg2 k)) (broadcast S1x1x16 0#32) := rfl
theorem M_00 : (trip_k0_t1.sl.r_2 (F := Ideal) arg1 arg2 v5 X_arg1 X_arg2 k) = kput v5 0#32 (kbeam 0#32 (trip_k0_t1.sl.v22 (F := Ideal) arg1 arg2 X_arg1 X_arg2 k) (trip_k0_t1.sl.v28 (F := Ideal) arg1 arg2 X_arg1 X_arg2 k)) (broadcast S1x1x16 0#32) := rfl
theorem A_01 : (trip_k0_t1.sl.r_3 (F := Ideal) arg1 arg2 X_arg1 X_arg2 k) = knextA (trip_k0_t1.sl.v22 (F := Ideal) arg1 arg2 X_arg1 X_arg2 k) (trip_k0_t1.sl.v28 (F := Ideal) arg1 arg2 X_arg1 X_arg2 k) := rfl
theorem B_01 : (trip_k0_t1.sl.r_4 (F := Ideal) arg1 arg2 X_arg1 X_arg2 k) = knextB (trip_k0_t1.sl.v22 (F := Ideal) arg1 arg2 X_arg1 X_arg2 k) (trip_k0_t1.sl.v28 (F := Ideal) arg1 arg2 X_arg1 X_arg2 k) := rfl
theorem T_01 : (trip_k0_t1.sl.v104 (F := Ideal) arg1 arg2 X_arg1 X_arg2 k) = ktok (trip_k0_t1.sl.r_3 (F := Ideal) arg1 arg2 X_arg1 X_arg2 k) (trip_k0_t1.sl.r_4 (F := Ideal) arg1 arg2 X_arg1 X_arg2 k) := rfl
theorem P_01 : (trip_k0_t1.sl.r_7 (F := Ideal) arg1 arg2 v5 X_arg1 X_arg2 k) = kput v5 4#32 (km (trip_k0_t1.sl.r_3 (F := Ideal) arg1 arg2 X_arg1 X_arg2 k) (trip_k0_t1.sl.r_4 (F := Ideal) arg1 arg2 X_arg1 X_arg2 k)) (trip_k0_t1.sl.r (F := Ideal) arg1 arg2 v5 X_arg1 X_arg2 k) := rfl
theorem I_01 : (trip_k0_t1.sl.r_8 (F := Ideal) arg1 arg2 v5 X_arg1 X_arg2 k) = kput v5 4#32 (ktok (trip_k0_t1.sl.r_3 (F := Ideal) arg1 arg2 X_arg1 X_arg2 k) (trip_k0_t1.sl.r_4 (F := Ideal) arg1 arg2 X_arg1 X_arg2 k)) (trip_k0_t1.sl.r_1 (F := Ideal) arg1 arg2 v5 X_arg1 X_arg2 k) := rfl
theorem M_01 : (trip_k0_t1.sl.r_9 (F := Ideal) arg1 arg2 v5 X_arg1 X_arg2 k) = kput v5 4#32 (kbeam 0#32 (trip_k0_t1.sl.r_3 (F := Ideal) arg1 arg2 X_arg1 X_arg2 k) (trip_k0_t1.sl.r_4 (F := Ideal) arg1 arg2 X_arg1 X_arg2 k)) (trip_k0_t1.sl.r_2 (F := Ideal) arg1 arg2 v5 X_arg1 X_arg2 k) := rfl
theorem A_02 : (trip_k0_t1.sl.r_10 (F := Ideal) arg1 arg2 X_arg1 X_arg2 k) = knextA (trip_k0_t1.sl.r_3 (F := Ideal) arg1 arg2 X_arg1 X_arg2 k) (trip_k0_t1.sl.r_4 (F := Ideal) arg1 arg2 X_arg1 X_arg2 k) := rfl
theorem B_02 : (trip_k0_t1.sl.r_11 (F := Ideal) arg1 arg2 X_arg1 X_arg2 k) = knextB (trip_k0_t1.sl.r_3 (F := Ideal) arg1 arg2 X_arg1 X_arg2 k) (trip_k0_t1.sl.r_4 (F := Ideal) arg1 arg2 X_arg1 X_arg2 k) := rfl
theorem T_02 : (trip_k0_t1.sl.v153 (F := Ideal) arg1 arg2 X_arg1 X_arg2 k) = ktok (trip_k0_t1.sl.r_10 (F := Ideal) arg1 arg2 X_arg1 X_arg2 k) (trip_k0_t1.sl.r_11 (F := Ideal) arg1 arg2 X_arg1 X_arg2 k) := rfl
theorem P_02 : (trip_k0_t1.sl.r_13 (F := Ideal) arg1 arg2 v5 X_arg1 X_arg2 k) = kput v5 8#32 (km (trip_k0_t1.sl.r_10 (F := Ideal) arg1 arg2 X_arg1 X_arg2 k) (trip_k0_t1.sl.r_11 (F := Ideal) arg1 arg2 X_arg1 X_arg2 k)) (trip_k0_t1.sl.r_7 (F := Ideal) arg1 arg2 v5 X_arg1 X_arg2 k) := rfl
theorem I_02 : (trip_k0_t1.sl.r_14 (F := Ideal) arg1 arg2 v5 X_arg1 X_arg2 k) = kput v5 8#32 (ktok (trip_k0_t1.sl.r_10 (F := Ideal) arg1 arg2 X_arg1 X_arg2 k) (trip_k0_t1.sl.r_11 (F := Ideal) arg1 arg2 X_arg1 X_arg2 k)) (trip_k0_t1.sl.r_8 (F := Ideal) arg1 arg2 v5 X_arg1 X_arg2 k) := rfl
theorem M_02 : (trip_k0_t1.sl.r_15 (F := Ideal) arg1 arg2 v5 X_arg1 X_arg2 k) = kput v5 8#32 (kbeam 0#32 (trip_k0_t1.sl.r_10 (F := Ideal) arg1 arg2 X_arg1 X_arg2 k) (trip_k0_t1.sl.r_11 (F := Ideal) arg1 arg2 X_arg1 X_arg2 k)) (trip_k0_t1.sl.r_9 (F := Ideal) arg1 arg2 v5 X_arg1 X_arg2 k) := rfl
theorem B_03 : (trip_k0_t1.sl.r_16 (F := Ideal) arg1 arg2 X_arg1 X_arg2 k) = knextB (trip_k0_t1.sl.r_10 (F := Ideal) arg1 arg2 X_arg1 X_arg2 k) (trip_k0_t1.sl.r_11 (F := Ideal) arg1 arg2 X_arg1 X_arg2 k) := rfl
theorem T_03 : (trip_k0_t1.sl.v202 (F := Ideal) arg1 arg2 X_arg1 X_arg2 k) = ktok (knextA (trip_k0_t1.sl.r_10 (F := Ideal) arg1 arg2 X_arg1 X_arg2 k) (trip_k0_t1.sl.r_11 (F := Ideal) arg1 arg2 X_arg1 X_arg2 k)) (trip_k0_t1.sl.r_16 (F := Ideal) arg1 arg2 X_arg1 X_arg2 k) := rfl
theorem P_03 : (trip_k0_t1.sl.v207 (F := Ideal) arg1 arg2 v5 X_arg1 X_arg2 k) = kput v5 12#32 (km (knextA (trip_k0_t1.sl.r_10 (F := Ideal) arg1 arg2 X_arg1 X_arg2 k) (trip_k0_t1.sl.r_11 (F := Ideal) arg1 arg2 X_arg1 X_arg2 k)) (trip_k0_t1.sl.r_16 (F := Ideal) arg1 arg2 X_arg1 X_arg2 k)) (trip_k0_t1.sl.r_13 (F := Ideal) arg1 arg2 v5 X_arg1 X_arg2 k) := rfl
theorem I_03 : (trip_k0_t1.sl.v209 (F := Ideal) arg1 arg2 v5 X_arg1 X_arg2 k) = kput v5 12#32 (ktok (knextA (trip_k0_t1.sl.r_10 (F := Ideal) arg1 arg2 X_arg1 X_arg2 k) (trip_k0_t1.sl.r_11 (F := Ideal) arg1 arg2 X_arg1 X_arg2 k)) (trip_k0_t1.sl.r_16 (F := Ideal) arg1 arg2 X_arg1 X_arg2 k)) (trip_k0_t1.sl.r_14 (F := Ideal) arg1 arg2 v5 X_arg1 X_arg2 k) := rfl
theorem M_03 : (trip_k0_t1.sl.v213 (F := Ideal) arg1 arg2 v5 X_arg1 X_arg2 k) = kput v5 12#32 (kbeam 0#32 (knextA (trip_k0_t1.sl.r_10 (F := Ideal) arg1 arg2 X_arg1 X_arg2 k) (trip_k0_t1.sl.r_11 (F := Ideal) arg1 arg2 X_arg1 X_arg2 k)) (trip_k0_t1.sl.r_16 (F := Ideal) arg1 arg2 X_arg1 X_arg2 k)) (trip_k0_t1.sl.r_15 (F := Ideal) arg1 arg2 v5 X_arg1 X_arg2 k) := rfl
theorem N_1 : (trip_k0_t1.sl.v241 (F := Ideal) arg1 arg2 X_arg1 X_arg2 k) = (addf (F := Ideal) (addf (F := Ideal) (addf (F := Ideal) (addf (F := Ideal) (kpen (tripIn arg1 arg2 X_arg1 X_arg2 k) 0) (khit (trip_k0_t1.sl.v55 (F := Ideal) arg1 arg2 X_arg1 X_arg2 k))) (khit (trip_k0_t1.sl.v104 (F := Ideal) arg1 arg2 X_arg1 X_arg2 k))) (khit (trip_k0_t1.sl.v153 (F := Ideal) arg1 arg2 X_arg1 X_arg2 k))) (khit (trip_k0_t1.sl.v202 (F := Ideal) arg1 arg2 X_arg1 X_arg2 k))) := rfl

theorem A_10 : ((trip_k0_t1.sl.v253 (F := Ideal) arg1 arg2 X_arg1 X_arg2 k), (trip_k0_t1.sl.v259 (F := Ideal) arg1 arg2 X_arg1 X_arg2 k)) = kini (tripIn arg1 arg2 X_arg1 X_arg2 k) 1 (trip_k0_t1.sl.v241 (F := Ideal) arg1 arg2 X_arg1 X_arg2 k) := rfl
theorem T_10 : (trip_k0_t1.sl.v286 (F := Ideal) arg1 arg2 X_arg1 X_arg2 k) = ktok (trip_k0_t1.sl.v253 (F := Ideal) arg1 arg2 X_arg1 X_arg2 k) (trip_k0_t1.sl.v259 (F := Ideal) arg1 arg2 X_arg1 X_arg2 k) := rfl
theorem P_10 : (trip_k0_t1.sl.r_19 (F := Ideal) arg1 arg2 v5 X_arg1 X_arg2 k) = kput v5 1#32 (km (trip_k0_t1.sl.v253 (F := Ideal) arg1 arg2 X_arg1 X_arg2 k) (trip_k0_t1.sl.v259 (F := Ideal) arg1 arg2 X_arg1 X_arg2 k)) (trip_k0_t1.sl.v207 (F := Ideal) arg1 arg2 v5 X_arg1 X_arg2 k) := rfl
theorem I_10 : (trip_k0_t1.sl.r_20 (F := Ideal) arg1 arg2 v5 X_arg1 X_arg2 k) = kput v5 1#32 (ktok (trip_k0_t1.sl.v253 (F := Ideal) arg1 arg2 X_arg1 X_arg2 k) (trip_k0_t1.sl.v259 (F := Ideal) arg1 arg2 X_arg1 X_arg2 k)) (trip_k0_t1.sl.v209 (F := Ideal) arg1 arg2 v5 X_arg1 X_arg2 k) := rfl
theorem M_10 : (trip_k0_t1.sl.r_21 (F := Ideal) arg1 arg2 v5 X_arg1 X_arg2 k) = kput v5 1#32 (kbeam 1#32 (trip_k0_t1.sl.v253 (F := Ideal) arg1 arg2 X_arg1 X_arg2 k) (trip_k0_t1.sl.v259 (F := Ideal) arg1 arg2 X_arg1 X_arg2 k)) (trip_k0_t1.sl.v213 (F := Ideal) arg1 arg2 v5 X_arg1 X_arg2 k) := rfl
theorem A_11 : (trip_k0_t1.sl.r_22 (F := Ideal) arg1 arg2 X_arg1 X_arg2 k) = knextA (trip_k0_t1.sl.v253 (F := Ideal) arg1 arg2 X_arg1 X_arg2 k) (trip_k0_t1.sl.v259 (F := Ideal) arg1 arg2 X_arg1 X_arg2 k) := rfl
theorem B_11 : (trip_k0_t1.sl.r_23 (F := Ideal) arg1 arg2 X_arg1 X_arg2 k) = knextB (trip_k0_t1.sl.v253 (F := Ideal) arg1 arg2 X_arg1 X_arg2 k) (trip_k0_t1.sl.v259 (F := Ideal) arg1 arg2 X_arg1 X_arg2 k) := rfl
theorem T_11 : (trip_k0_t1.sl.v335 (F := Ideal) arg1 arg2 X_arg1 X_arg2 k) = ktok (trip_k0_t1.sl.r_22 (F := Ideal) arg1 arg2 X_arg1 X_arg2 k) (trip_k0_t1.sl.r_23 (F := Ideal) arg1 arg2 X_arg1 X_arg2 k) := rfl
theorem P_11 : (trip_k0_t1.sl.r_25 (F := Ideal) arg1 arg2 v5 X_arg1 X_arg2 k) = kput v5 5#32 (km (trip_k0_t1.sl.r_22 (F := Ideal) arg1 arg2 X_arg1 X_arg2 k) (trip_k0_t1.sl.r_23 (F := Ideal) arg1 arg2 X_arg1 X_arg2 k)) (trip_k0_t1.sl.r_19 (F := Ideal) arg1 arg2 v5 X_arg1 X_arg2 k) := rfl
theorem I_11 : (trip_k0_t1.sl.r_26 (F := Ideal) arg1 arg2 v5 X_arg1 X_arg2 k) = kput v5 5#32 (ktok (trip_k0_t1.sl.r_22 (F := Ideal) arg1 arg2 X_arg1 X_arg2 k) (trip_k0_t1.sl.r_23 (F := Ideal) arg1 arg2 X_arg1 X_arg2 k)) (trip_k0_t1.sl.r_20 (F := Ideal) arg1 arg2 v5 X_arg1 X_arg2 k) := rfl
theorem M_11 : (trip_k0_t1.sl.r_27 (F := Ideal) arg1 arg2 v5 X_arg1 X_arg2 k) = kput v5 5#32 (kbeam 1#32 (trip_k0_t1.sl.r_22 (F := Ideal) arg1 arg2 X_arg1 X_arg2 k) (trip_k0_t1.sl.r_23 (F := Ideal) arg1 arg2 X_arg1 X_arg2 k)) (trip_k0_t1.sl.r_21 (F := Ideal) arg1 arg2 v5 X_arg1 X_arg2 k) := rfl
theorem A_12 : (trip_k0_t1.sl.r_28 (F := Ideal) arg1 arg2 X_arg1 X_arg2 k) = knextA (trip_k0_t1.sl.r_22 (F := Ideal) arg1 arg2 X_arg1 X_arg2 k) (trip_k0_t1.sl.r_23 (F := Ideal) arg1 arg2 X_arg1 X_arg2 k) := rfl
theorem B_12 : (trip_k0_t1.sl.r_29 (F := Ideal) arg1 arg2 X_arg1 X_arg2 k) = knextB (trip_k0_t1.sl.r_22 (F := Ideal) arg1 arg2 X_arg1 X_arg2 k) (trip_k0_t1.sl.r_23 (F := Ideal) arg1 arg2 X_arg1 X_arg2 k) := rfl
theorem T_12 : (trip_k0_t1.sl.v384 (F := Ideal) arg1 arg2 X_arg1 X_arg2 k) = ktok (trip_k0_t1.sl.r_28 (F := Ideal) arg1 arg2 X_arg1 X_arg2 k) (trip_k0_t1.sl.r_29 (F := Ideal) arg1 arg2 X_arg1 X_arg2 k) := rfl
theorem P_12 : (trip_k0_t1.sl.r_31 (F := Ideal) arg1 arg2 v5 X_arg1 X_arg2 k) = kput v5 9#32 (km (trip_k0_t1.sl.r_28 (F := Ideal) arg1 arg2 X_arg1 X_arg2 k) (trip_k0_t1.sl.r_29 (F := Ideal) arg1 arg2 X_arg1 X_arg2 k)) (trip_k0_t1.sl.r_25 (F := Ideal) arg1 arg2 v5 X_arg1 X_arg2 k) := rfl
theorem I_12 : (trip_k0_t1.sl.r_32 (F := Ideal) arg1 arg2 v5 X_arg1 X_arg2 k) = kput v5 9#32 (ktok (trip_k0_t1.sl.r_28 (F := Ideal) arg1 arg2 X_arg1 X_arg2 k) (trip_k0_t1.sl.r_29 (F := Ideal) arg1 arg2 X_arg1 X_arg2 k)) (trip_k0_t1.sl.r_26 (F := Ideal) arg1 arg2 v5 X_arg1 X_arg2 k) := rfl
theorem M_12 : (trip_k0_t1.sl.r_33 (F := Ideal) arg1 arg2 v5 X_arg1 X_arg2 k) = kput v5 9#32 (kbeam 1#32 (trip_k0_t1.sl.r_28 (F := Ideal) arg1 arg2 X_arg1 X_arg2 k) (trip_k0_t1.sl.r_29 (F := Ideal) arg1 arg2 X_arg1 X_arg2 k)) (trip_k0_t1.sl.r_27 (F := Ideal) arg1 arg2 v5 X_arg1 X_arg2 k) := rfl
theorem T_13 : (trip_k0_t1.sl.v433 (F := Ideal) arg1 arg2 X_arg1 X_arg2 k) = ktok (knextA (trip_k0_t1.sl.r_28 (F := Ideal) arg1 arg2 X_arg1 X_arg2 k) (trip_k0_t1.sl.r_29 (F := Ideal) arg1 arg2 X_arg1 X_arg2 k)) (knextB (trip_k0_t1.sl.r_28 (F := Ideal) arg1 arg2 X_arg1 X_arg2 k) (trip_k0_t1.sl.r_29 (F := Ideal) arg1 arg2 X_arg1 X_arg2 k)) := rfl
theorem P_13 : (trip_k0_t1.sl.v438 (F := Ideal) arg1 arg2 v5 X_arg1 X_arg2 k) = kput v5 13#32 (km (knextA (trip_k0_t1.sl.r_28 (F := Ideal) arg1 arg2 X_arg1 X_arg2 k) (trip_k0_t1.sl.r_29 (F := Ideal) arg1 arg2 X_arg1 X_arg2 k)) (knextB (trip_k0_t1.sl.r_28 (F := Ideal) arg1 arg2 X_arg1 X_arg2 k) (trip_k0_t1.sl.r_29 (F := Ideal) arg1 arg2 X_arg1 X_arg2 k))) (trip_k0_t1.sl.r_31 (F := Ideal) arg1 arg2 v5 X_arg1 X_arg2 k) := rfl
theorem I_13 : (trip_k0_t1.sl.v440 (F := Ideal) arg1 arg2 v5 X_arg1 X_arg2 k) = kput v5 13#32 (ktok (knextA (trip_k0_t1.sl.r_28 (F := Ideal) arg1 arg2 X_arg1 X_arg2 k) (trip_k0_t1.sl.r_29 (F := Ideal) arg1 arg2 X_arg1 X_arg2 k)) (knextB (trip_k0_t1.sl.r_28 (F := Ideal) arg1 arg2 X_arg1 X_arg2 k) (trip_k0_t1.sl.r_29 (F := Ideal) arg1 arg2 X_arg1 X_arg2 k))) (trip_k0_t1.sl.r_32 (F := Ideal) arg1 arg2 v5 X_arg1 X_arg2 k) := rfl
theorem M_13 : (trip_k0_t1.sl.v444 (F := Ideal) arg1 arg2 v5 X_arg1 X_arg2 k) = kput v5 13#32 (kbeam 1#32 (knextA (trip_k0_t1.sl.r_28 (F := Ideal) arg1 arg2 X_arg1 X_arg2 k) (trip_k0_t1.sl.r_29 (F := Ideal) arg1 arg2 X_arg1 X_arg2 k)) (knextB (trip_k0_t1.sl.r_28 (F := Ideal) arg1 arg2 X_arg1 X_arg2 k) (trip_k0_t1.sl.r_29 (F := Ideal) arg1 arg2 X_arg1 X_arg2 k))) (trip_k0_t1.sl.r_33 (F := Ideal) arg1 arg2 v5 X_arg1 X_arg2 k) := rfl
theorem N_2 : (trip_k0_t1.sl.v472 (F := Ideal) arg1 arg2 X_arg1 X_arg2 k) = (addf (F := Ideal) (addf (F := Ideal) (addf (F := Ideal) (addf (F := Ideal) (trip_k0_t1.sl.v241 (F := Ideal) arg1 arg2 X_arg1 X_arg2 k) (khit (trip_k0_t1.sl.v286 (F := Ideal) arg1 arg2 X_arg1 X_arg2 k))) (khit (trip_k0_t1.sl.v335 (F := Ideal) arg1 arg2 X_arg1 X_arg2 k))) (khit (trip_k0_t1.sl.v384 (F := Ideal) arg1 arg2 X_arg1 X_arg2 k))) (khit (trip_k0_t1.sl.v433 (F := Ideal) arg1 arg2 X_arg1 X_arg2 k))) := rfl

theorem A_20 : ((trip_k0_t1.sl.v484 (F := Ideal) arg1 arg2 X_arg1 X_arg2 k), (trip_k0_t1.sl.v490 (F := Ideal) arg1 arg2 X_arg1 X_arg2 k)) = kini (tripIn arg1 arg2 X_arg1 X_arg2 k) 2 (trip_k0_t1.sl.v472 (F := Ideal) arg1 arg2 X_arg1 X_arg2 k) := rfl
theorem T_20 : (trip_k0_t1.sl.v517 (F := Ideal) arg1 arg2 X_arg1 X_arg2 k) = ktok (trip_k0_t1.sl.v484 (F := Ideal) arg1 arg2 X_arg1 X_arg2 k) (trip_k0_t1.sl.v490 (F := Ideal) arg1 arg2 X_arg1 X_arg2 k) := rfl
theorem P_20 : (trip_k0_t1.sl.v522 (F := Ideal) arg1 arg2 v5 X_arg1 X_arg2 k) = kput v5 2#32 (km (trip_k0_t1.sl.v484 (F := Ideal) arg1 arg2 X_arg1 X_arg2 k) (trip_k0_t1.sl.v490 (F := Ideal) arg1 arg2 X_arg1 X_arg2 k)) (trip_k0_t1.sl.v438 (F := Ideal) arg1 arg2 v5 X_arg1 X_arg2 k) := rfl
theorem I_20 : (trip_k0_t1.sl.v524 (F := Ideal) arg1 arg2 v5 X_arg1 X_arg2 k) = kput v5 2#32 (ktok (trip_k0_t1.sl.v484 (F := Ideal) arg1 arg2 X_arg1 X_arg2 k) (trip_k0_t1.sl.v490 (F := Ideal) arg1 arg2 X_arg1 X_arg2 k)) (trip_k0_t1.sl.v440 (F := Ideal) arg1 arg2 v5 X_arg1 X_arg2 k) := rfl
theorem M_20 : (trip_k0_t1.sl.r_35 (F := Ideal) arg1 arg2 v5 X_arg1 X_arg2 k) = kput v5 2#32 (kbeam 2#32 (trip_k0_t1.sl.v484 (F := Ideal) arg1 arg2 X_arg1 X_arg2 k) (trip_k0_t1.sl.v490 (F := Ideal) arg1 arg2 X_arg1 X_arg2 k)) (trip_k0_t1.sl.v444 (F := Ideal) arg1 arg2 v5 X_arg1 X_arg2 k) := rfl
theorem A_21 : (trip_k0_t1.sl.r_36 (F := Ideal) arg1 arg2 X_arg1 X_arg2 k) = knextA (trip_k0_t1.sl.v484 (F := Ideal) arg1 arg2 X_arg1 X_arg2 k) (trip_k0_t1.sl.v490 (F := Ideal) arg1 arg2 X_arg1 X_arg2 k) := rfl
theorem B_21 : (trip_k0_t1.sl.r_37 (F := Ideal) arg1 arg2 X_arg1 X_arg2 k) = knextB (trip_k0_t1.sl.v484 (F := Ideal) arg1 arg2 X_arg1 X_arg2 k) (trip_k0_t1.sl.v490 (F := Ideal) arg1 arg2 X_arg1 X_arg2 k) := rfl
theorem T_21 : (trip_k0_t1.sl.v566 (F := Ideal) arg1 arg2 X_arg1 X_arg2 k) = ktok (trip_k0_t1.sl.r_36 (F := Ideal) arg1 arg2 X_arg1 X_arg2 k) (trip_k0_t1.sl.r_37 (F := Ideal) arg1 arg2 X_arg1 X_arg2 k) := rfl
theorem P_21 : (trip_k0_t1.sl.r_38 (F := Ideal) arg1 arg2 v5 X_arg1 X_arg2 k) = kput v5 6#32 (km (trip_k0_t1.sl.r_36 (F := Ideal) arg1 arg2 X_arg1 X_arg2 k) (trip_k0_t1.sl.r_37 (F := Ideal) arg1 arg2 X_arg1 X_arg2 k)) (trip_k0_t1.sl.v522 (F := Ideal) arg1 arg2 v5 X_arg1 X_arg2 k) := rfl
theorem I_21 : (trip_k0_t1.sl.r_39 (F := Ideal) arg1 arg2 v5 X_arg1 X_arg2 k) = kput v5 6#32 (ktok (trip_k0_t1.sl.r_36 (F := Ideal) arg1 arg2 X_arg1 X_arg2 k) (trip_k0_t1.sl.r_37 (F := Ideal) arg1 arg2 X_arg1 X_arg2 k)) (trip_k0_t1.sl.v524 (F := Ideal) arg1 arg2 v5 X_arg1 X_arg2 k) := rfl
theorem M_21 : (trip_k0_t1.sl.r_40 (F := Ideal) arg1 arg2 v5 X_arg1 X_arg2 k) = kput v5 6#32 (kbeam 2#32 (trip_k0_t1.sl.r_36 (F := Ideal) arg1 arg2 X_arg1 X_arg2 k) (trip_k0_t1.sl.r_37 (F := Ideal) arg1 arg2 X_arg1 X_arg2 k)) (trip_k0_t1.sl.r_35 (F := Ideal) arg1 arg2 v5 X_arg1 X_arg2 k) := rfl
theorem A_22 : (trip_k0_t1.sl.r_41 (F := Ideal) arg1 arg2 X_arg1 X_arg2 k) = knextA (trip_k0_t1.sl.r_36 (F := Ideal) arg1 arg2 X_arg1 X_arg2 k) (trip_k0_t1.sl.r_37 (F := Ideal) arg1 arg2 X_arg1 X_arg2 k) := rfl
theorem B_22 : (trip_k0_t1.sl.r_42 (F := Ideal) arg1 arg2 X_arg1 X_arg2 k) = knextB (trip_k0_t1.sl.r_36 (F := Ideal) arg1 arg2 X_arg1 X_arg2 k) (trip_k0_t1.sl.r_37 (F := Ideal) arg1 arg2 X_arg1 X_arg2 k) := rfl
theorem T_22 : (trip_k0_t1.sl.v615 (F := Ideal) arg1 arg2 X_arg1 X_arg2 k) = ktok (trip_k0_t1.sl.r_41 (F := Ideal) arg1 arg2 X_arg1 X_arg2 k) (trip_k0_t1.sl.r_42 (F := Ideal) arg1 arg2 X_arg1 X_arg2 k) := rfl
theorem P_22 : (trip_k0_t1.sl.r_43 (F := Ideal) arg1 arg2 v5 X_arg1 X_arg2 k) = kput v5 10#32 (km (trip_k0_t1.sl.r_41 (F := Ideal) arg1 arg2 X_arg1 X_arg2 k) (trip_k0_t1.sl.r_42 (F := Ideal) arg1 arg2 X_arg1 X_arg2 k)) (trip_k0_t1.sl.r_38 (F := Ideal) arg1 arg2 v5 X_arg1 X_arg2 k) := rfl
theorem I_22 : (trip_k0_t1.sl.r_44 (F := Ideal) arg1 arg2 v5 X_arg1 X_arg2 k) = kput v5 10#32 (ktok (trip_k0_t1.sl.r_41 (F := Ideal) arg1 arg2 X_arg1 X_arg2 k) (trip_k0_t1.sl.r_42 (F := Ideal) arg1 arg2 X_arg1 X_arg2 k)) (trip_k0_t1.sl.r_39 (F := Ideal) arg1 arg2 v5 X_arg1 X_arg2 k) := rfl
theorem M_22 : (trip_k0_t1.sl.r_45 (F := Ideal) arg1 arg2 v5 X_arg1 X_arg2 k) = kput v5 10#32 (kbeam 2#32 (trip_k0_t1.sl.r_41 (F := Ideal) arg1 arg2 X_arg1 X_arg2 k) (trip_k0_t1.sl.r_42 (F := Ideal) arg1 arg2 X_arg1 X_arg2 k)) (trip_k0_t1.sl.r_40 (F := Ideal) arg1 arg2 v5 X_arg1 X_arg2 k) := rfl
theorem T_23 : (trip_k0_t1.sl.v664 (F := Ideal) arg1 arg2 X_arg1 X_arg2 k) = ktok (knextA (trip_k0_t1.sl.r_41 (F := Ideal) arg1 arg2 X_arg1 X_arg2 k) (trip_k0_t1.sl.r_42 (F := Ideal) arg1 arg2 X_arg1 X_arg2 k)) (knextB (trip_k0_t1.sl.r_41 (F := Ideal) arg1 arg2 X_arg1 X_arg2 k) (trip_k0_t1.sl.r_42 (F := Ideal) arg1 arg2 X_arg1 X_arg2 k)) := rfl
theorem P_23 : (trip_k0_t1.sl.r_46 (F := Ideal) arg1 arg2 v5 X_arg1 X_arg2 k) = kput v5 14#32 (km (knextA (trip_k0_t1.sl.r_41 (F := Ideal) arg1 arg2 X_arg1 X_arg2 k) (trip_k0_t1.sl.r_42 (F := Ideal) arg1 arg2 X_arg1 X_arg2 k)) (knextB (trip_k0_t1.sl.r_41 (F := Ideal) arg1 arg2 X_arg1 X_arg2 k) (trip_k0_t1.sl.r_42 (F := Ideal) arg1 arg2 X_arg1 X_arg2 k))) (trip_k0_t1.sl.r_43 (F := Ideal) arg1 arg2 v5 X_arg1 X_arg2 k) := rfl
theorem I_23 : (trip_k0_t1.sl.v671 (F := Ideal) arg1 arg2 v5 X_arg1 X_arg2 k) = kput v5 14#32 (ktok (knextA (trip_k0_t1.sl.r_41 (F := Ideal) arg1 arg2 X_arg1 X_arg2 k) (trip_k0_t1.sl.r_42 (F := Ideal) arg1 arg2 X_arg1 X_arg2 k)) (knextB (trip_k0_t1.sl.r_41 (F := Ideal) arg1 arg2 X_arg1 X_arg2 k) (trip_k0_t1.sl.r_42 (F := Ideal) arg1 arg2 X_arg1 X_arg2 k))) (trip_k0_t1.sl.r_44 (F := Ideal) arg1 arg2 v5 X_arg1 X_arg2 k) := rfl
theorem M_23 : (trip_k0_t1.sl.v675 (F := Ideal) arg1 arg2 v5 X_arg1 X_arg2 k) = kput v5 14#32 (kbeam 2#32 (knextA (trip_k0_t1.sl.r_41 (F := Ideal) arg1 arg2 X_arg1 X_arg2 k) (trip_k0_t1.sl.r_42 (F := Ideal) arg1 arg2 X_arg1 X_arg2 k)) (knextB (trip_k0_t1.sl.r_41 (F := Ideal) arg1 arg2 X_arg1 X_arg2 k) (trip_k0_t1.sl.r_42 (F := Ideal) arg1 arg2 X_arg1 X_arg2 k))) (trip_k0_t1.sl.r_45 (F := Ideal) arg1 arg2 v5 X_arg1 X_arg2 k) := rfl
theorem N_3 : (trip_k0_t1.sl.v703 (F := Ideal) arg1 arg2 X_arg1 X_arg2 k) = (addf (F := Ideal) (addf (F := Ideal) (addf (F := Ideal) (addf (F := Ideal) (trip_k0_t1.sl.v472 (F := Ideal) arg1 arg2 X_arg1 X_arg2 k) (khit (trip_k0_t1.sl.v517 (F := Ideal) arg1 arg2 X_arg1 X_arg2 k))) (khit (trip_k0_t1.sl.v566 (F := Ideal) arg1 arg2 X_arg1 X_arg2 k))) (khit (trip_k0_t1.sl.v615 (F := Ideal) arg1 arg2 X_arg1 X_arg2 k))) (khit (trip_k0_t1.sl.v664 (F := Ideal) arg1 arg2 X_arg1 X_arg2 k))) := rfl

theorem A_30 : ((trip_k0_t1.sl.v715 (F := Ideal) arg1 arg2 X_arg1 X_arg2 k), (trip_k0_t1.sl.r_48 (F := Ideal) arg1 arg2 X_arg1 X_arg2 k)) = kini (tripIn arg1 arg2 X_arg1 X_arg2 k) 3 (trip_k0_t1.sl.v703 (F := Ideal) arg1 arg2 X_arg1 X_arg2 k) := rfl
theorem P_30 : (trip_k0_t1.sl.r_49 (F := Ideal) arg1 arg2 v5 X_arg1 X_arg2 k) = kput v5 3#32 (km (trip_k0_t1.sl.v715 (F := Ideal) arg1 arg2 X_arg1 X_arg2 k) (trip_k0_t1.sl.r_48 (F := Ideal) arg1 arg2 X_arg1 X_arg2 k)) (trip_k0_t1.sl.r_46 (F := Ideal) arg1 arg2 v5 X_arg1 X_arg2 k) := rfl
theorem I_30 : (trip_k0_t1.sl.r_50 (F := Ideal) arg1 arg2 v5 X_arg1 X_arg2 k) = kput v5 3#32 (ktok (trip_k0_t1.sl.v715 (F := Ideal) arg1 arg2 X_arg1 X_arg2 k) (trip_k0_t1.sl.r_48 (F := Ideal) arg1 arg2 X_arg1 X_arg2 k)) (trip_k0_t1.sl.v671 (F := Ideal) arg1 arg2 v5 X_arg1 X_arg2 k) := rfl
theorem M_30 : (trip_k0_t1.sl.r_51 (F := Ideal) arg1 arg2 v5 X_arg1 X_arg2 k) = kput v5 3#32 (kbeam 3#32 (trip_k0_t1.sl.v715 (F := Ideal) arg1 arg2 X_arg1 X_arg2 k) (trip_k0_t1.sl.r_48 (F := Ideal) arg1 arg2 X_arg1 X_arg2 k)) (trip_k0_t1.sl.v675 (F := Ideal) arg1 arg2 v5 X_arg1 X_arg2 k) := rfl
theorem A_31 : (trip_k0_t1.sl.r_54 (F := Ideal) arg1 arg2 X_arg1 X_arg2 k) = knextA (trip_k0_t1.sl.v715 (F := Ideal) arg1 arg2 X_arg1 X_arg2 k) (trip_k0_t1.sl.r_48 (F := Ideal) arg1 arg2 X_arg1 X_arg2 k) := rfl
theorem B_31 : (trip_k0_t1.sl.r_55 (F := Ideal) arg1 arg2 X_arg1 X_arg2 k) = knextB (trip_k0_t1.sl.v715 (F := Ideal) arg1 arg2 X_arg1 X_arg2 k) (trip_k0_t1.sl.r_48 (F := Ideal) arg1 arg2 X_arg1 X_arg2 k) := rfl
theorem P_31 : (trip_k0_t1.sl.r_56 (F := Ideal) arg1 arg2 v5 X_arg1 X_arg2 k) = kput v5 7#32 (km (trip_k0_t1.sl.r_54 (F := Ideal) arg1 arg2 X_arg1 X_arg2 k) (trip_k0_t1.sl.r_55 (F := Ideal) arg1 arg2 X_arg1 X_arg2 k)) (trip_k0_t1.sl.r_49 (F := Ideal) arg1 arg2 v5 X_arg1 X_arg2 k) := rfl
theorem I_31 : (trip_k0_t1.sl.r_57 (F := Ideal) arg1 arg2 v5 X_arg1 X_arg2 k) = kput v5 7#32 (ktok (trip_k0_t1.sl.r_54 (F := Ideal) arg1 arg2 X_arg1 X_arg2 k) (trip_k0_t1.sl.r_55 (F := Ideal) arg1 arg2 X_arg1 X_arg2 k)) (trip_k0_t1.sl.r_50 (F := Ideal) arg1 arg2 v5 X_arg1 X_arg2 k) := rfl
theorem M_31 : (trip_k0_t1.sl.r_58 (F := Ideal) arg1 arg2 v5 X_arg1 X_arg2 k) = kput v5 7#32 (kbeam 3#32 (trip_k0_t1.sl.r_54 (F := Ideal) arg1 arg2 X_arg1 X_arg2 k) (trip_k0_t1.sl.r_55 (F := Ideal) arg1 arg2 X_arg1 X_arg2 k)) (trip_k0_t1.sl.r_51 (F := Ideal) arg1 arg2 v5 X_arg1 X_arg2 k) := rfl
theorem A_32 : (trip_k0_t1.sl.r_61 (F := Ideal) arg1 arg2 X_arg1 X_arg2 k) = knextA (trip_k0_t1.sl.r_54 (F := Ideal) arg1 arg2 X_arg1 X_arg2 k) (trip_k0_t1.sl.r_55 (F := Ideal) arg1 arg2 X_arg1 X_arg2 k) := rfl
theorem B_32 : (trip_k0_t1.sl.r_62 (F := Ideal) arg1 arg2 X_arg1 X_arg2 k) = knextB (trip_k0_t1.sl.r_54 (F := Ideal) arg1 arg2 X_arg1 X_arg2 k) (trip_k0_t1.sl.r_55 (F := Ideal) arg1 arg2 X_arg1 X_arg2 k) := rfl
theorem P_32 : (trip_k0_t1.sl.r_63 (F := Ideal) arg1 arg2 v5 X_arg1 X_arg2 k) = kput v5 11#32 (km (trip_k0_t1.sl.r_61 (F := Ideal) arg1 arg2 X_arg1 X_arg2 k) (trip_k0_t1.sl.r_62 (F := Ideal) arg1 arg2 X_arg1 X_arg2 k)) (trip_k0_t1.sl.r_56 (F := Ideal) arg1 arg2 v5 X_arg1 X_arg2 k) := rfl
theorem I_32 : (trip_k0_t1.sl.r_64 (F := Ideal) arg1 arg2 v5 X_arg1 X_arg2 k) = kput v5 11#32 (ktok (trip_k0_t1.sl.r_61 (F := Ideal) arg1 arg2 X_arg1 X_arg2 k) (trip_k0_t1.sl.r_62 (F := Ideal) arg1 arg2 X_arg1 X_arg2 k)) (trip_k0_t1.sl.r_57 (F := Ideal) arg1 arg2 v5 X_arg1 X_arg2 k) := rfl
theorem M_32 : (trip_k0_t1.sl.r_65 (F := Ideal) arg1 arg2 v5 X_arg1 X_arg2 k) = kput v5 11#32 (kbeam 3#32 (trip_k0_t1.sl.r_61 (F := Ideal) arg1 arg2 X_arg1 X_arg2 k) (trip_k0_t1.sl.r_62 (F := Ideal) arg1 arg2 X_arg1 X_arg2 k)) (trip_k0_t1.sl.r_58 (F := Ideal) arg1 arg2 v5 X_arg1 X_arg2 k) := rfl
theorem P_33 : (trip_k0_t1.sl.r_70 (F := Ideal) arg1 arg2 v5 X_arg1 X_arg2 k) = shapeCast S1x16 (kput v5 15#32 (km (knextA (trip_k0_t1.sl.r_61 (F := Ideal) arg1 arg2 X_arg1 X_arg2 k) (trip_k0_t1.sl.r_62 (F := Ideal) arg1 arg2 X_arg1 X_arg2 k)) (knextB (trip_k0_t1.sl.r_61 (F := Ideal) arg1 arg2 X_arg1 X_arg2 k) (trip_k0_t1.sl.r_62 (F := Ideal) arg1 arg2 X_arg1 X_arg2 k))) (trip_k0_t1.sl.r_63 (F := Ideal) arg1 arg2 v5 X_arg1 X_arg2 k)) shapeCasts_S1x1x16_S1x16 := rfl
theorem I_33 : (trip_k0_t1.sl.r_68 (F := Ideal) arg1 arg2 v5 X_arg1 X_arg2 k) = kput v5 15#32 (ktok (knextA (trip_k0_t1.sl.r_61 (F := Ideal) arg1 arg2 X_arg1 X_arg2 k) (trip_k0_t1.sl.r_62 (F := Ideal) arg1 arg2 X_arg1 X_arg2 k)) (knextB (trip_k0_t1.sl.r_61 (F := Ideal) arg1 arg2 X_arg1 X_arg2 k) (trip_k0_t1.sl.r_62 (F := Ideal) arg1 arg2 X_arg1 X_arg2 k))) (trip_k0_t1.sl.r_64 (F := Ideal) arg1 arg2 v5 X_arg1 X_arg2 k) := rfl
theorem M_33 : (trip_k0_t1.sl.r_69 (F := Ideal) arg1 arg2 v5 X_arg1 X_arg2 k) = kput v5 15#32 (kbeam 3#32 (knextA (trip_k0_t1.sl.r_61 (F := Ideal) arg1 arg2 X_arg1 X_arg2 k) (trip_k0_t1.sl.r_62 (F := Ideal) arg1 arg2 X_arg1 X_arg2 k)) (knextB (trip_k0_t1.sl.r_61 (F := Ideal) arg1 arg2 X_arg1 X_arg2 k) (trip_k0_t1.sl.r_62 (F := Ideal) arg1 arg2 X_arg1 X_arg2 k))) (trip_k0_t1.sl.r_65 (F := Ideal) arg1 arg2 v5 X_arg1 X_arg2 k) := rfl

end Trip

end Cert.Proof.Beam

end
-- ==== Proof.Rows.lean ====
/- The three rows a trip writes: at slot `s` the pick `s / 4` of group `s % 4` of the selection machine. -/
module

public import proofs.«01_k».proof.Proof.Pick
public import Idealize.ShloMosaic.Lib.WordCmp

@[expose] public section

set_option maxRecDepth 65536

noncomputable section

namespace Cert.Proof.Beam

open Idealize.ShloMosaic Idealize.SL.Sem Cert.KernelIdeal Cert.KernelIdeal.Gen

theorem kput_apply {α : Type} (v5 : IVec S1x1x16 32) (s : BitVec 32) (val : α) (prev : S1x1x16.Idx → α) (j : S1x1x16.Idx) :
    kput v5 s val prev j = if v5 j = s then val else prev j := by
  by_cases h : v5 j = s <;> simp [kput, select, Scalar.select, cmpi, WordCmp.cmpi_eq_eq, broadcast, h]

/-- Sixteen writes, one per slot. -/
theorem slots {α : Type} (v5 : IVec S1x1x16 32) (h5 : ∀ j, v5 j = BitVec.ofNat 32 (j 2).val) (f : ℕ → ℕ → α)
    (init : S1x1x16.Idx → α) (j : S1x1x16.Idx) :
    (kput v5 15#32 (f 3 3) (kput v5 11#32 (f 3 2) (kput v5 7#32 (f 3 1) (kput v5 3#32 (f 3 0) (kput v5 14#32 (f 2 3) (kput v5 10#32 (f 2 2) (kput v5 6#32 (f 2 1) (kput v5 2#32 (f 2 0) (kput v5 13#32 (f 1 3) (kput v5 9#32 (f 1 2) (kput v5 5#32 (f 1 1) (kput v5 1#32 (f 1 0) (kput v5 12#32 (f 0 3) (kput v5 8#32 (f 0 2) (kput v5 4#32 (f 0 1) (kput v5 0#32 (f 0 0) init)))))))))))))))) j = f ((j 2).val % 4) ((j 2).val / 4) := by
  simp only [kput_apply, h5]
  have hj : (j 2).val < 16 := (j 2).isLt
  generalize (j 2).val = n at hj
  interval_cases n <;> rfl

section Trip

variable (arg1 : Memref sig .tc .vmem S2x8x8x12500 .f32) (arg2 : Memref sig .tc .vmem S2x1x8 .f32)
  (v5 : IVec S1x1x16 32) (X_arg1 : BufTy.Contents (Elt Ideal) arg1.view.ty)
  (X_arg2 : BufTy.Contents (Elt Ideal) arg2.view.ty) (k : Fin k0_t1_loop.trips)

theorem SA_00 : (trip_k0_t1.sl.v22 (F := Ideal) arg1 arg2 X_arg1 X_arg2 k) = (kS (tripIn arg1 arg2 X_arg1 X_arg2 k) 0 0).1 := by
  rw [kS_zero, ← A_00]
theorem SB_00 : (trip_k0_t1.sl.v28 (F := Ideal) arg1 arg2 X_arg1 X_arg2 k) = (kS (tripIn arg1 arg2 X_arg1 X_arg2 k) 0 0).2 := by
  rw [kS_zero, ← A_00]
theorem SA_01 : (trip_k0_t1.sl.r_3 (F := Ideal) arg1 arg2 X_arg1 X_arg2 k) = (kS (tripIn arg1 arg2 X_arg1 X_arg2 k) 0 1).1 := by
  rw [A_01, kS_succ, ← SA_00, ← SB_00]
theorem SB_01 : (trip_k0_t1.sl.r_4 (F := Ideal) arg1 arg2 X_arg1 X_arg2 k) = (kS (tripIn arg1 arg2 X_arg1 X_arg2 k) 0 1).2 := by
  rw [B_01, kS_succ, ← SA_00, ← SB_00]
theorem SA_02 : (trip_k0_t1.sl.r_10 (F := Ideal) arg1 arg2 X_arg1 X_arg2 k) = (kS (tripIn arg1 arg2 X_arg1 X_arg2 k) 0 2).1 := by
  rw [A_02, kS_succ, ← SA_01, ← SB_01]
theorem SB_02 : (trip_k0_t1.sl.r_11 (F := Ideal) arg1 arg2 X_arg1 X_arg2 k) = (kS (tripIn arg1 arg2 X_arg1 X_arg2 k) 0 2).2 := by
  rw [B_02, kS_succ, ← SA_01, ← SB_01]
theorem SA_03 : (knextA (trip_k0_t1.sl.r_10 (F := Ideal) arg1 arg2 X_arg1 X_arg2 k) (trip_k0_t1.sl.r_11 (F := Ideal) arg1 arg2 X_arg1 X_arg2 k)) = (kS (tripIn arg1 arg2 X_arg1 X_arg2 k) 0 3).1 := by
  rw [kS_succ, ← SA_02, ← SB_02]
theorem SB_03 : (trip_k0_t1.sl.r_16 (F := Ideal) arg1 arg2 X_arg1 X_arg2 k) = (kS (tripIn arg1 arg2 X_arg1 X_arg2 k) 0 3).2 := by
  rw [B_03, kS_succ, ← SA_02, ← SB_02]
theorem pen_1 : (trip_k0_t1.sl.v241 (F := Ideal) arg1 arg2 X_arg1 X_arg2 k) = kpen (tripIn arg1 arg2 X_arg1 X_arg2 k) 1 := by
  rw [N_1, kpen_succ, T_00, T_01, T_02, T_03, ← SA_00, ← SB_00, ← SA_01, ← SB_01, ← SA_02, ← SB_02, ← SA_03, ← SB_03]
theorem SA_10 : (trip_k0_t1.sl.v253 (F := Ideal) arg1 arg2 X_arg1 X_arg2 k) = (kS (tripIn arg1 arg2 X_arg1 X_arg2 k) 1 0).1 := by
  rw [kS_zero, ← pen_1, ← A_10]
theorem SB_10 : (trip_k0_t1.sl.v259 (F := Ideal) arg1 arg2 X_arg1 X_arg2 k) = (kS (tripIn arg1 arg2 X_arg1 X_arg2 k) 1 0).2 := by
  rw [kS_zero, ← pen_1, ← A_10]
theorem SA_11 : (trip_k0_t1.sl.r_22 (F := Ideal) arg1 arg2 X_arg1 X_arg2 k) = (kS (tripIn arg1 arg2 X_arg1 X_arg2 k) 1 1).1 := by
  rw [A_11, kS_succ, ← SA_10, ← SB_10]
theorem SB_11 : (trip_k0_t1.sl.r_23 (F := Ideal) arg1 arg2 X_arg1 X_arg2 k) = (kS (tripIn arg1 arg2 X_arg1 X_arg2 k) 1 1).2 := by
  rw [B_11, kS_succ, ← SA_10, ← SB_10]
theorem SA_12 : (trip_k0_t1.sl.r_28 (F := Ideal) arg1 arg2 X_arg1 X_arg2 k) = (kS (tripIn arg1 arg2 X_arg1 X_arg2 k) 1 2).1 := by
  rw [A_12, kS_succ, ← SA_11, ← SB_11]
theorem SB_12 : (trip_k0_t1.sl.r_29 (F := Ideal) arg1 arg2 X_arg1 X_arg2 k) = (kS (tripIn arg1 arg2 X_arg1 X_arg2 k) 1 2).2 := by
  rw [B_12, kS_succ, ← SA_11, ← SB_11]
theorem SA_13 : (knextA (trip_k0_t1.sl.r_28 (F := Ideal) arg1 arg2 X_arg1 X_arg2 k) (trip_k0_t1.sl.r_29 (F := Ideal) arg1 arg2 X_arg1 X_arg2 k)) = (kS (tripIn arg1 arg2 X_arg1 X_arg2 k) 1 3).1 := by
  rw [kS_succ, ← SA_12, ← SB_12]
theorem SB_13 : (knextB (trip_k0_t1.sl.r_28 (F := Ideal) arg1 arg2 X_arg1 X_arg2 k) (trip_k0_t1.sl.r_29 (F := Ideal) arg1 arg2 X_arg1 X_arg2 k)) = (kS (tripIn arg1 arg2 X_arg1 X_arg2 k) 1 3).2 := by
  rw [kS_succ, ← SA_12, ← SB_12]
theorem pen_2 : (trip_k0_t1.sl.v472 (F := Ideal) arg1 arg2 X_arg1 X_arg2 k) = kpen (tripIn arg1 arg2 X_arg1 X_arg2 k) 2 := by
  rw [N_2, kpen_succ, T_10, T_11, T_12, T_13, ← SA_10, ← SB_10, ← SA_11, ← SB_11, ← SA_12, ← SB_12, ← SA_13, ← SB_13, pen_1]
theorem SA_20 : (trip_k0_t1.sl.v484 (F := Ideal) arg1 arg2 X_arg1 X_arg2 k) = (kS (tripIn arg1 arg2 X_arg1 X_arg2 k) 2 0).1 := by
  rw [kS_zero, ← pen_2, ← A_20]
theorem SB_20 : (trip_k0_t1.sl.v490 (F := Ideal) arg1 arg2 X_arg1 X_arg2 k) = (kS (tripIn arg1 arg2 X_arg1 X_arg2 k) 2 0).2 := by
  rw [kS_zero, ← pen_2, ← A_20]
theorem SA_21 : (trip_k0_t1.sl.r_36 (F := Ideal) arg1 arg2 X_arg1 X_arg2 k) = (kS (tripIn arg1 arg2 X_arg1 X_arg2 k) 2 1).1 := by
  rw [A_21, kS_succ, ← SA_20, ← SB_20]
theorem SB_21 : (trip_k0_t1.sl.r_37 (F := Ideal) arg1 arg2 X_arg1 X_arg2 k) = (kS (tripIn arg1 arg2 X_arg1 X_arg2 k) 2 1).2 := by
  rw [B_21, kS_succ, ← SA_20, ← SB_20]
theorem SA_22 : (trip_k0_t1.sl.r_41 (F := Ideal) arg1 arg2 X_arg1 X_arg2 k) = (kS (tripIn arg1 arg2 X_arg1 X_arg2 k) 2 2).1 := by
  rw [A_22, kS_succ, ← SA_21, ← SB_21]
theorem SB_22 : (trip_k0_t1.sl.r_42 (F := Ideal) arg1 arg2 X_arg1 X_arg2 k) = (kS (tripIn arg1 arg2 X_arg1 X_arg2 k) 2 2).2 := by
  rw [B_22, kS_succ, ← SA_21, ← SB_21]
theorem SA_23 : (knextA (trip_k0_t1.sl.r_41 (F := Ideal) arg1 arg2 X_arg1 X_arg2 k) (trip_k0_t1.sl.r_42 (F := Ideal) arg1 arg2 X_arg1 X_arg2 k)) = (kS (tripIn arg1 arg2 X_arg1 X_arg2 k) 2 3).1 := by
  rw [kS_succ, ← SA_22, ← SB_22]
theorem SB_23 : (knextB (trip_k0_t1.sl.r_41 (F := Ideal) arg1 arg2 X_arg1 X_arg2 k) (trip_k0_t1.sl.r_42 (F := Ideal) arg1 arg2 X_arg1 X_arg2 k)) = (kS (tripIn arg1 arg2 X_arg1 X_arg2 k) 2 3).2 := by
  rw [kS_succ, ← SA_22, ← SB_22]
theorem pen_3 : (trip_k0_t1.sl.v703 (F := Ideal) arg1 arg2 X_arg1 X_arg2 k) = kpen (tripIn arg1 arg2 X_arg1 X_arg2 k) 3 := by
  rw [N_3, kpen_succ, T_20, T_21, T_22, T_23, ← SA_20, ← SB_20, ← SA_21, ← SB_21, ← SA_22, ← SB_22, ← SA_23, ← SB_23, pen_2]
theorem SA_30 : (trip_k0_t1.sl.v715 (F := Ideal) arg1 arg2 X_arg1 X_arg2 k) = (kS (tripIn arg1 arg2 X_arg1 X_arg2 k) 3 0).1 := by
  rw [kS_zero, ← pen_3, ← A_30]
theorem SB_30 : (trip_k0_t1.sl.r_48 (F := Ideal) arg1 arg2 X_arg1 X_arg2 k) = (kS (tripIn arg1 arg2 X_arg1 X_arg2 k) 3 0).2 := by
  rw [kS_zero, ← pen_3, ← A_30]
theorem SA_31 : (trip_k0_t1.sl.r_54 (F := Ideal) arg1 arg2 X_arg1 X_arg2 k) = (kS (tripIn arg1 arg2 X_arg1 X_arg2 k) 3 1).1 := by
  rw [A_31, kS_succ, ← SA_30, ← SB_30]
theorem SB_31 : (trip_k0_t1.sl.r_55 (F := Ideal) arg1 arg2 X_arg1 X_arg2 k) = (kS (tripIn arg1 arg2 X_arg1 X_arg2 k) 3 1).2 := by
  rw [B_31, kS_succ, ← SA_30, ← SB_30]
theorem SA_32 : (trip_k0_t1.sl.r_61 (F := Ideal) arg1 arg2 X_arg1 X_arg2 k) = (kS (tripIn arg1 arg2 X_arg1 X_arg2 k) 3 2).1 := by
  rw [A_32, kS_succ, ← SA_31, ← SB_31]
theorem SB_32 : (trip_k0_t1.sl.r_62 (F := Ideal) arg1 arg2 X_arg1 X_arg2 k) = (kS (tripIn arg1 arg2 X_arg1 X_arg2 k) 3 2).2 := by
  rw [B_32, kS_succ, ← SA_31, ← SB_31]
theorem SA_33 : (knextA (trip_k0_t1.sl.r_61 (F := Ideal) arg1 arg2 X_arg1 X_arg2 k) (trip_k0_t1.sl.r_62 (F := Ideal) arg1 arg2 X_arg1 X_arg2 k)) = (kS (tripIn arg1 arg2 X_arg1 X_arg2 k) 3 3).1 := by
  rw [kS_succ, ← SA_32, ← SB_32]
theorem SB_33 : (knextB (trip_k0_t1.sl.r_61 (F := Ideal) arg1 arg2 X_arg1 X_arg2 k) (trip_k0_t1.sl.r_62 (F := Ideal) arg1 arg2 X_arg1 X_arg2 k)) = (kS (tripIn arg1 arg2 X_arg1 X_arg2 k) 3 3).2 := by
  rw [kS_succ, ← SA_32, ← SB_32]

variable (h5 : ∀ j, v5 j = BitVec.ofNat 32 (j 2).val)
include h5

/-- The scores row. -/
theorem scores_row (j : S1x1x16.Idx) :
    (kput v5 15#32 (km (knextA (trip_k0_t1.sl.r_61 (F := Ideal) arg1 arg2 X_arg1 X_arg2 k) (trip_k0_t1.sl.r_62 (F := Ideal) arg1 arg2 X_arg1 X_arg2 k)) (knextB (trip_k0_t1.sl.r_61 (F := Ideal) arg1 arg2 X_arg1 X_arg2 k) (trip_k0_t1.sl.r_62 (F := Ideal) arg1 arg2 X_arg1 X_arg2 k))) (trip_k0_t1.sl.r_63 (F := Ideal) arg1 arg2 v5 X_arg1 X_arg2 k)) j
      = km (kS (tripIn arg1 arg2 X_arg1 X_arg2 k) ((j 2).val % 4) ((j 2).val / 4)).1 (kS (tripIn arg1 arg2 X_arg1 X_arg2 k) ((j 2).val % 4) ((j 2).val / 4)).2 := by
  rw [P_32, P_31, P_30, P_23, P_22, P_21, P_20, P_13, P_12, P_11, P_10, P_03, P_02, P_01, P_00]
  simp only [SA_03, SB_03, SA_13, SB_13, SA_23, SB_23, SA_33, SB_33]
  simp only [SA_00, SB_00, SA_01, SB_01, SA_02, SB_02, SA_10, SB_10, SA_11, SB_11, SA_12, SB_12, SA_20, SB_20, SA_21, SB_21, SA_22, SB_22, SA_30, SB_30, SA_31, SB_31, SA_32, SB_32]
  exact slots v5 h5 (fun g i => km (kS (tripIn arg1 arg2 X_arg1 X_arg2 k) g i).1 (kS (tripIn arg1 arg2 X_arg1 X_arg2 k) g i).2) _ j

/-- The tokens row. -/
theorem tokens_row (j : S1x1x16.Idx) :
    (trip_k0_t1.sl.r_68 (F := Ideal) arg1 arg2 v5 X_arg1 X_arg2 k) j
      = ktok (kS (tripIn arg1 arg2 X_arg1 X_arg2 k) ((j 2).val % 4) ((j 2).val / 4)).1 (kS (tripIn arg1 arg2 X_arg1 X_arg2 k) ((j 2).val % 4) ((j 2).val / 4)).2 := by
  rw [I_33, I_32, I_31, I_30, I_23, I_22, I_21, I_20, I_13, I_12, I_11, I_10, I_03, I_02, I_01, I_00]
  simp only [SA_03, SB_03, SA_13, SB_13, SA_23, SB_23, SA_33, SB_33]
  simp only [SA_00, SB_00, SA_01, SB_01, SA_02, SB_02, SA_10, SB_10, SA_11, SB_11, SA_12, SB_12, SA_20, SB_20, SA_21, SB_21, SA_22, SB_22, SA_30, SB_30, SA_31, SB_31, SA_32, SB_32]
  exact slots v5 h5 (fun g i => ktok (kS (tripIn arg1 arg2 X_arg1 X_arg2 k) g i).1 (kS (tripIn arg1 arg2 X_arg1 X_arg2 k) g i).2) _ j

/-- The beams row. -/
theorem beams_row (j : S1x1x16.Idx) :
    (trip_k0_t1.sl.r_69 (F := Ideal) arg1 arg2 v5 X_arg1 X_arg2 k) j
      = kbeam (BitVec.ofNat 32 ((j 2).val % 4)) (kS (tripIn arg1 arg2 X_arg1 X_arg2 k) ((j 2).val % 4) ((j 2).val / 4)).1
          (kS (tripIn arg1 arg2 X_arg1 X_arg2 k) ((j 2).val % 4) ((j 2).val / 4)).2 := by
  rw [M_33, M_32, M_31, M_30, M_23, M_22, M_21, M_20, M_13, M_12, M_11, M_10, M_03, M_02, M_01, M_00]
  simp only [SA_03, SB_03, SA_13, SB_13, SA_23, SB_23, SA_33, SB_33]
  simp only [SA_00, SB_00, SA_01, SB_01, SA_02, SB_02, SA_10, SB_10, SA_11, SB_11, SA_12, SB_12, SA_20, SB_20, SA_21, SB_21, SA_22, SB_22, SA_30, SB_30, SA_31, SB_31, SA_32, SB_32]
  exact slots v5 h5 (fun g i => kbeam (BitVec.ofNat 32 g) (kS (tripIn arg1 arg2 X_arg1 X_arg2 k) g i).1 (kS (tripIn arg1 arg2 X_arg1 X_arg2 k) g i).2) _ j

end Trip

end Cert.Proof.Beam

end
-- ==== Proof.TopFour.lean ====
/- The greatest entries of a list of extended reals, in order, equal entries by position: what a stable sort puts in front,
   and what repeatedly taking the greatest entry and striking it out finds. -/
module

public import Idealize.ShloMosaic.Lib.SortFacts
public import Mathlib.Data.EReal.Basic

@[expose] public section

noncomputable section

namespace Cert.Proof.Beam

open Idealize.ShloMosaic

/-- `p 0`, `p 1`, … are the positions of the `k` greatest entries of `x`, in order, equal ones by position. -/
def IsTop {n : ℕ} (x : Fin n → EReal) (k : ℕ) (p : ℕ → Fin n) : Prop :=
  ∀ i < k, (∀ j < i, p j ≠ p i) ∧ ∀ m, (∀ j < i, m ≠ p j) → x m < x (p i) ∨ (x m = x (p i) ∧ p i ≤ m)

theorem IsTop.unique {n : ℕ} {x : Fin n → EReal} {k : ℕ} {p q : ℕ → Fin n} (hp : IsTop x k p) (hq : IsTop x k q) :
    ∀ i < k, p i = q i := by
  intro i
  induction i using Nat.strong_induction_on with
  | _ i ih =>
    intro hi
    have e : ∀ j < i, p j = q j := fun j hj => ih j hj (hj.trans hi)
    have h1 := (hp i hi).2 (q i) fun j hj h => (hq i hi).1 j hj ((e j hj).symm.trans h.symm)
    have h2 := (hq i hi).2 (p i) fun j hj h => (hp i hi).1 j hj ((e j hj).trans h.symm)
    rcases h1 with h1 | ⟨e1, l1⟩
    · rcases h2 with h2 | ⟨e2, _⟩
      · exact absurd (h1.trans h2) (lt_irrefl _)
      · exact absurd (e2 ▸ h1) (lt_irrefl _)
    · rcases h2 with h2 | ⟨_, l2⟩
      · exact absurd (e1 ▸ h2) (lt_irrefl _)
      · exact le_antisymm l1 l2

/-- Greater first, equal ones by position. -/
def Ahead {n : ℕ} (x : Fin n → EReal) (a b : Fin n) : Prop := x b < x a ∨ (x a = x b ∧ a < b)

theorem ahead_insertBefore {n : ℕ} (x : Fin n → EReal) (a : Fin n) (l : List (Fin n)) (hl : l.Pairwise (Ahead x))
    (ha : ∀ b ∈ l, a < b) : (insertBefore (fun k k' => decide (x k' < x k)) a l).Pairwise (Ahead x) := by
  induction l with
  | nil => simp [insertBefore]
  | cons b l ih =>
    rw [List.pairwise_cons] at hl
    have ih := ih hl.2 fun c hc => ha c (List.mem_cons_of_mem _ hc)
    unfold insertBefore
    split
    · rename_i hb
      rw [decide_eq_true_eq] at hb
      refine List.pairwise_cons.mpr ⟨fun c hc => ?_, ih⟩
      rcases List.mem_cons.mp ((perm_insertBefore _ a l).mem_iff.mp hc) with rfl | hc
      · exact Or.inl hb
      · exact hl.1 c hc
    · rename_i hb
      rw [decide_eq_true_eq, not_lt] at hb
      refine List.pairwise_cons.mpr ⟨fun c hc => ?_, List.pairwise_cons.mpr hl⟩
      have hac := ha c hc
      have hcb : x c ≤ x b := by
        rcases List.mem_cons.mp hc with rfl | hc
        · exact le_rfl
        · rcases hl.1 c hc with h | ⟨h, _⟩
          · exact h.le
          · exact h.ge
      rcases lt_or_eq_of_le (hcb.trans hb) with h | h
      · exact Or.inl h
      · exact Or.inr ⟨h.symm, hac⟩

theorem ahead_stableSort {n : ℕ} (x : Fin n → EReal) (l : List (Fin n)) (hl : l.Pairwise (· < ·)) :
    (stableSort (fun k k' => decide (x k' < x k)) l).Pairwise (Ahead x) := by
  induction l with
  | nil => exact List.Pairwise.nil
  | cons a l ih =>
    rw [List.pairwise_cons] at hl
    unfold stableSort
    exact ahead_insertBefore x a _ (ih hl.2) fun b hb => hl.1 b ((perm_stableSort _ l).mem_iff.mp hb)

/-- The positions a stable sort puts in front. -/
def front {n : ℕ} (hn : 0 < n) (x : Fin n → EReal) (i : ℕ) : Fin n :=
  if h : i < n then sortedFrom (fun k k' => decide (x k' < x k)) ⟨i, h⟩ else ⟨0, hn⟩

theorem front_isTop {n : ℕ} (hn : 0 < n) (x : Fin n → EReal) (k : ℕ) (hk : k ≤ n) : IsTop x k (front hn x) := by
  intro i hi
  have hin : i < n := lt_of_lt_of_le hi hk
  have hp : ∀ a b : Fin n, a < b → Ahead x (sortedFrom (fun k k' => decide (x k' < x k)) a)
      (sortedFrom (fun k k' => decide (x k' < x k)) b) := fun a b hab =>
    List.pairwise_iff_get.mp (ahead_stableSort x (List.finRange n) (List.pairwise_lt_finRange n))
      (a.cast (length_sortPositions n _).symm) (b.cast (length_sortPositions n _).symm) hab
  constructor
  · intro j hj h
    have hjn := hj.trans hin
    simp only [front, dif_pos hin, dif_pos hjn] at h
    have := congrArg Fin.val (sortedFrom_injective _ h)
    exact absurd this hj.ne
  · intro m hm
    obtain ⟨j, rfl⟩ := sortedFrom_surjective (fun k k' => decide (x k' < x k)) m
    have hij : i ≤ j.val := by
      by_contra hlt
      refine hm j.val (not_le.mp hlt) ?_
      simp only [front, dif_pos j.isLt]
    simp only [front, dif_pos hin]
    rcases lt_or_eq_of_le hij with hlt | heq
    · rcases hp ⟨i, hin⟩ j hlt with h | ⟨h, h'⟩
      · exact Or.inl h
      · exact Or.inr ⟨h.symm, h'.le⟩
    · have : (⟨i, hin⟩ : Fin n) = j := Fin.ext heq
      rw [this]
      exact Or.inr ⟨rfl, le_rfl⟩

/-- How many entries lie above minus infinity. -/
def live {n : ℕ} (x : Fin n → EReal) : Finset (Fin n) := by
  classical exact Finset.univ.filter fun m => ⊥ < x m

theorem mem_live {n : ℕ} (x : Fin n → EReal) (m : Fin n) : m ∈ live x ↔ ⊥ < x m := by simp [live]

/-- Taking the first greatest entry and striking it out, again and again, finds the greatest entries and their values, as
    long as an entry above minus infinity is left. -/
theorem struck_isTop {n : ℕ} (x : Fin n → EReal) (y : ℕ → Fin n → EReal) (p : ℕ → Fin n)
    (h0 : y 0 = x) (k : ℕ) (hx : k ≤ (live x).card) (hs : ∀ i < k, ∀ m, y (i + 1) m = if m = p i then ⊥ else y i m)
    (hp : ∀ i < k, ∀ m, y i m < y i (p i) ∨ (y i m = y i (p i) ∧ p i ≤ m)) :
    IsTop x k p ∧ ∀ i < k, y i (p i) = x (p i) := by
  have hy : ∀ i ≤ k, ∀ m, (∀ j < i, m ≠ p j) → y i m = x m := by
    intro i
    induction i with
    | zero => intro _ m _; rw [h0]
    | succ i ih =>
      intro hi m hm
      rw [hs i (by omega), if_neg (hm i (by omega)), ih (by omega) m fun j hj => hm j (by omega)]
  have hb : ∀ i ≤ k, ∀ j < i, y i (p j) = ⊥ := by
    intro i
    induction i with
    | zero => intro _ j hj; omega
    | succ i ih =>
      intro hi j hj
      rw [hs i (by omega)]
      split
      · rfl
      · rename_i hne
        refine ih (by omega) j ?_
        rcases Nat.lt_succ_iff_lt_or_eq.mp hj with h | h
        · exact h
        · exact absurd (by rw [h]) hne
  have hnew : ∀ i < k, ∀ j < i, p j ≠ p i := by
    intro i hi j hj h
    have hbot : y i (p i) = ⊥ := h ▸ hb i hi.le j hj
    have hc := Finset.card_image_le (s := Finset.range i) (f := p)
    rw [Finset.card_range] at hc
    obtain ⟨m, hl, hm⟩ := Finset.exists_mem_notMem_of_card_lt_card (lt_of_le_of_lt hc (lt_of_lt_of_le hi hx))
    have hmx : y i m = x m := hy i hi.le m fun j hj h => hm (Finset.mem_image.mpr ⟨j, Finset.mem_range.mpr hj, h.symm⟩)
    have hlt : ⊥ < y i m := hmx ▸ (mem_live x m).mp hl
    rcases hp i hi m with h | ⟨h, _⟩
    · rw [hbot] at h; exact absurd h not_lt_bot
    · rw [h, hbot] at hlt; exact absurd hlt (lt_irrefl _)
  have hval : ∀ i < k, y i (p i) = x (p i) := fun i hi => hy i hi.le (p i) fun j hj h => hnew i hi j hj h.symm
  refine ⟨fun i hi => ⟨hnew i hi, fun m hm => ?_⟩, hval⟩
  rw [← hval i hi, ← hy i hi.le m hm]
  exact hp i hi m

end Cert.Proof.Beam

end
-- ==== Proof.PickIdeal.lean ====
/- One pick over the two halves of a group, over the extended reals: the first greatest entry of the flat list of both
   halves, struck out afterwards. -/
module

public import proofs.«01_k».proof.Proof.Pick
public import proofs.«01_k».proof.Proof.TopFour
public import Idealize.ShloMosaic.Lib.WordCmp
public import Idealize.ShloMosaic.Lib.Pipeline.Value
public import Idealize.ShloMosaic.PureOps.Reduce
public import Idealize.ShloMosaic.PureOps.Ideal.Laws

@[expose] public section

noncomputable section

namespace Cert.Proof.Beam

open Idealize.ShloMosaic Idealize.SL.Sem Cert.KernelIdeal Cert.KernelIdeal.Gen

/-- The token a place of a half stands for. -/
def pos (j : S8x12500.Idx) : ℕ := (j 0).val * 12500 + (j 1).val

/-- The place of a token. -/
def cell (n : ℕ) : S8x12500.Idx := fun a => match a with
  | ⟨0, _⟩ => ⟨n / 12500 % 8, Nat.mod_lt _ (by decide)⟩
  | ⟨1, _⟩ => ⟨n % 12500, Nat.mod_lt _ (by decide)⟩

theorem pos_lt (j : S8x12500.Idx) : pos j < 100000 := by
  have h0 : (j 0).val < 8 := (j 0).isLt
  have h1 : (j 1).val < 12500 := (j 1).isLt
  unfold pos; omega

theorem cell_pos (j : S8x12500.Idx) : cell (pos j) = j := by
  have h0 : (j 0).val < 8 := (j 0).isLt
  have h1 : (j 1).val < 12500 := (j 1).isLt
  funext a
  match a with
  | ⟨0, _⟩ =>
    refine Fin.ext ?_
    show ((j 0).val * 12500 + (j 1).val) / 12500 % 8 = (j 0).val
    omega
  | ⟨1, _⟩ =>
    refine Fin.ext ?_
    show ((j 0).val * 12500 + (j 1).val) % 12500 = (j 1).val
    omega

theorem pos_cell (n : ℕ) (h : n < 100000) : pos (cell n) = n := by
  show n / 12500 % 8 * 12500 + n % 12500 = n
  omega

theorem pay_apply (j : S8x12500.Idx) : k0_pay1 j = BitVec.ofNat 32 (pos j) := by
  show IntOp.addi (IntOp.muli (iota .tc S8x12500 32 [0] iota_S8x12500_d0_w32 j) 12500#32)
    (iota .tc S8x12500 32 [1] iota_S8x12500_d1_w32 j) = _
  rw [iota_single_apply, iota_single_apply]
  show BitVec.ofNat 32 (j 0).val * BitVec.ofNat 32 12500 + BitVec.ofNat 32 (j 1).val = BitVec.ofNat 32 (pos j)
  rw [← BitVec.ofNat_mul, ← BitVec.ofNat_add]; rfl

theorem single (j j' : S1.Idx) : j = j' := by
  funext a
  match a with
  | ⟨0, _⟩ => exact Fin.ext (by have h1 : (j 0).val < 1 := (j 0).isLt; have h2 : (j' 0).val < 1 := (j' 0).isLt; show (j 0).val = (j' 0).val; omega)

/-- The one index of a vector of one entry. -/
def only : S1.Idx := fun a => match a with
  | ⟨0, _⟩ => ⟨0, Nat.one_pos⟩

theorem cast_single {α : Type} (x : S1.Idx → α) (i : S1x1x1.Idx) : shapeCast S1x1x1 x shapeCasts_S1_S1x1x1 i = x only :=
  congrArg x (single _ _)

theorem filter_all {p : S1x8x12500.Idx → S1.Idx} (j : S1.Idx) : (Finset.univ.filter fun i => p i = j) = Finset.univ :=
  Finset.filter_true_of_mem fun i _ => single _ _

theorem cast_reach {α : Type} (x : S8x12500.Idx → α) (j : S8x12500.Idx) :
    ∃ i, shapeCast S1x8x12500 x shapeCasts_S8x12500_S1x8x12500 i = x j := by
  refine ⟨(Shape.reshapeEquiv shapeCasts_S8x12500_S1x8x12500).symm j, ?_⟩
  unfold shapeCast
  rw [Equiv.apply_symm_apply]

theorem ofBits_neg_infinity : FloatOps.ofBits (F := Ideal) .f32 0xFF800000#32 = (⊥ : EReal) := by
  show Ideal.ofBits .f32 0xFF800000#32 = ⊥
  simp [Ideal.ofBits, Ideal.ieee]

theorem kmax_fold (a : Half) : kmax a = (Finset.univ : Finset S1x8x12500.Idx).fold (max : EReal → EReal → EReal) ⊥
    (shapeCast S1x8x12500 a shapeCasts_S8x12500_S1x8x12500) := by
  unfold kmax extractAt
  rw [cast_single]
  refine (multiReduction_maximumf_eq_fold (F := Ideal) (φ := .f32) (axes := [1, 2]) (t := S1)
    (shapeCast S1x8x12500 a shapeCasts_S8x12500_S1x8x12500) 0xFF800000#32 reduces_S1x8x12500_S1 (.inl rfl) rfl only).trans ?_
  rw [filter_all, ofBits_neg_infinity]
  rfl

theorem le_kmax (a : Half) (j : S8x12500.Idx) : a j ≤ kmax a := by
  rw [kmax_fold]
  obtain ⟨i, hi⟩ := cast_reach a j
  exact (Finset.le_fold_max _).mpr (Or.inr ⟨i, Finset.mem_univ _, hi.ge⟩)

theorem kmax_mem (a : Half) : ∃ n < 100000, a (cell n) = kmax a := by
  rcases (Finset.le_fold_max (kmax a)).mp (kmax_fold a).le with h | ⟨i, _, hi⟩
  · refine ⟨0, by decide, ?_⟩
    rw [le_bot_iff.mp h]
    exact le_bot_iff.mp ((le_kmax a _).trans h)
  · refine ⟨pos (Shape.reshapeEquiv shapeCasts_S8x12500_S1x8x12500 i), pos_lt _, ?_⟩
    rw [cell_pos]
    exact le_antisymm (le_kmax a _) hi

theorem toInt_minsi (x y : BitVec 32) : (IntOp.minsi x y).toInt = min x.toInt y.toInt := by
  unfold IntOp.minsi
  rw [BitVec.slt_eq_decide]
  split
  · rename_i h; rw [decide_eq_true_eq] at h; exact (min_eq_left h.le).symm
  · rename_i h; rw [decide_eq_true_eq] at h; exact (min_eq_right (not_lt.mp h)).symm

/-- A place's number where its entry is `m`, the large literal elsewhere. -/
def mark (a : Half) (m : Ideal .f32) : S8x12500.Idx → BitVec 32 :=
  select (cmpf .oeq a (broadcast S8x12500 m)) k0_pay1 (broadcast S8x12500 big)

open Classical in
theorem mark_apply (a : Half) (m : Ideal .f32) (j : S8x12500.Idx) :
    (mark a m j).toInt = if a j = m then (pos j : ℤ) else 1073741824 := by
  have hp := pos_lt j
  have hm : mark a m j = if (a j : EReal) = m then BitVec.ofNat 32 (pos j) else big := by
    show (if BitVec.ofBool (decide ((a j : EReal) = m)) = 1#1 then k0_pay1 j else big) = _
    rw [pay_apply]
    by_cases h : (a j : EReal) = m <;> simp [h]
  rw [hm]
  split
  · exact WordCmp.toInt_ofNat_of_lt (by omega)
  · rfl

theorem kix_fold (a : Half) (m : Ideal .f32) : (kix a m).toInt = (Finset.univ : Finset S1x8x12500.Idx).fold min (2147483647 : ℤ)
    fun i => (shapeCast S1x8x12500 (mark a m) shapeCasts_S8x12500_S1x8x12500 i).toInt := by
  unfold kix extractAt
  rw [cast_single]
  refine (congrArg BitVec.toInt (multiReductionI_eq_fold (axes := [1, 2]) (t := S1) .minsi
    (shapeCast S1x8x12500 (mark a m) shapeCasts_S8x12500_S1x8x12500) 2147483647#32 reduces_S1x8x12500_S1 rfl only)).trans ?_
  rw [filter_all]
  exact (Finset.fold_hom (op := IKind.minsi.op) (op' := min) (m := BitVec.toInt) toInt_minsi).symm

theorem kix_eq (a : Half) (m : Ideal .f32) (n : ℕ) (hn : n < 100000) (hm : a (cell n) = m)
    (hlt : ∀ n' < n, a (cell n') ≠ m) : kix a m = BitVec.ofNat 32 n := by
  apply BitVec.eq_of_toInt_eq
  rw [WordCmp.toInt_ofNat_of_lt (by omega)]
  apply le_antisymm
  · rw [kix_fold]
    obtain ⟨i, hi⟩ := cast_reach (mark a m) (cell n)
    refine (Finset.fold_min_le _).mpr (Or.inr ⟨i, Finset.mem_univ _, ?_⟩)
    rw [hi, mark_apply, if_pos hm, pos_cell n hn]
  · rw [kix_fold]
    refine (Finset.le_fold_min _).mpr ⟨by omega, fun i _ => ?_⟩
    show (n : ℤ) ≤ (mark a m _).toInt
    rw [mark_apply]
    split
    · rename_i h
      by_contra hlt'
      refine hlt (pos (Shape.reshapeEquiv shapeCasts_S8x12500_S1x8x12500 i)) (by omega) ?_
      rw [cell_pos]; exact h
    · omega

/-- Two lists as one. -/
def join (N M : ℕ) (a b : ℕ → EReal) (n : Fin M) : EReal := if n.val < N then a n.val else b (n.val - N)

/-- `p` is the first greatest entry. -/
def First {M : ℕ} (y : Fin M → EReal) (p : Fin M) : Prop := ∀ m, y m < y p ∨ (y m = y p ∧ p ≤ m)

theorem join_first (N M : ℕ) (hM : M = N + N) (a b : ℕ → EReal) (ma mb : EReal) (ha : ∀ n < N, a n ≤ ma) (hb : ∀ n < N, b n ≤ mb)
    (hab : mb ≤ ma) (n : ℕ) (hn : n < N) (hnM : n < M) (hval : a n = ma) (hmin : ∀ n' < n, a n' ≠ ma) :
    First (join N M a b) ⟨n, hnM⟩ ∧ join N M a b ⟨n, hnM⟩ = ma := by
  have hfp : join N M a b ⟨n, hnM⟩ = ma := by simp only [join, if_pos hn]; exact hval
  refine ⟨fun m => ?_, hfp⟩
  rw [hfp]
  by_cases hm : m.val < N
  · have hfm : join N M a b m = a m.val := by simp only [join, if_pos hm]
    rw [hfm]
    rcases lt_or_eq_of_le (ha m.val hm) with h | h
    · exact Or.inl h
    · refine Or.inr ⟨h, ?_⟩
      by_contra hlt'
      exact hmin m.val (not_le.mp hlt') h
  · have hfm : join N M a b m = b (m.val - N) := by simp only [join, if_neg hm]
    rw [hfm]
    rcases lt_or_eq_of_le ((hb (m.val - N) (by have := m.isLt; omega)).trans hab) with h | h
    · exact Or.inl h
    · exact Or.inr ⟨h, by show n ≤ m.val; omega⟩

theorem join_second (N M : ℕ) (hM : M = N + N) (a b : ℕ → EReal) (ma mb : EReal) (ha : ∀ n < N, a n ≤ ma) (hb : ∀ n < N, b n ≤ mb)
    (hab : ma < mb) (n : ℕ) (hnM : N + n < M) (hval : b n = mb) (hmin : ∀ n' < n, b n' ≠ mb) :
    First (join N M a b) ⟨N + n, hnM⟩ ∧ join N M a b ⟨N + n, hnM⟩ = mb := by
  have hge : ¬ N + n < N := by omega
  have hfp : join N M a b ⟨N + n, hnM⟩ = mb := by simp only [join, if_neg hge, Nat.add_sub_cancel_left]; exact hval
  refine ⟨fun m => ?_, hfp⟩
  rw [hfp]
  by_cases hm : m.val < N
  · have hfm : join N M a b m = a m.val := by simp only [join, if_pos hm]
    rw [hfm]
    exact Or.inl ((ha m.val hm).trans_lt hab)
  · have hfm : join N M a b m = b (m.val - N) := by simp only [join, if_neg hm]
    rw [hfm]
    rcases lt_or_eq_of_le (hb (m.val - N) (by have := m.isLt; omega)) with h | h
    · exact Or.inl h
    · refine Or.inr ⟨h, ?_⟩
      by_contra hlt'
      have hlt' : m.val < N + n := not_le.mp hlt'
      exact hmin (m.val - N) (by omega) h

theorem join_strike_first (N M : ℕ) (a b a' b' : ℕ → EReal) (n : ℕ) (hn : n < N) (hnM : n < M)
    (ha : ∀ k < N, a' k = if k = n then ⊥ else a k) (hb : ∀ k < N, b' k = b k) (hM : M = N + N) (m : Fin M) :
    join N M a' b' m = if m = ⟨n, hnM⟩ then ⊥ else join N M a b m := by
  by_cases hm : m.val < N
  · simp only [join, if_pos hm, ha m.val hm]
    by_cases h : m.val = n
    · rw [if_pos h, if_pos (Fin.ext h)]
    · rw [if_neg h, if_neg fun h' => h (congrArg Fin.val h')]
  · simp only [join, if_neg hm]
    rw [hb _ (by have := m.isLt; omega), if_neg fun h' => hm (by rw [congrArg Fin.val h']; exact hn)]

theorem join_strike_second (N M : ℕ) (a b a' b' : ℕ → EReal) (n : ℕ) (hnM : N + n < M)
    (hb : ∀ k < N, b' k = if k = n then ⊥ else b k) (ha : ∀ k < N, a' k = a k) (hM : M = N + N) (m : Fin M) :
    join N M a' b' m = if m = ⟨N + n, hnM⟩ then ⊥ else join N M a b m := by
  by_cases hm : m.val < N
  · simp only [join, if_pos hm, ha m.val hm]
    rw [if_neg fun h' => absurd (congrArg Fin.val h') (by show ¬ m.val = N + n; omega)]
  · simp only [join, if_neg hm]
    rw [hb _ (by have := m.isLt; omega)]
    by_cases h : m.val - N = n
    · rw [if_pos h, if_pos (Fin.ext (by show m.val = N + n; omega))]
    · rw [if_neg h, if_neg fun h' => h (by have h'' : m.val = N + n := congrArg Fin.val h'; omega)]

/-- The entries of both halves as one list. -/
def flat (s : Half × Half) : Fin 200000 → EReal := join 100000 200000 (fun n => s.1 (cell n)) (fun n => s.2 (cell n))

theorem oge_eq (x y : Ideal .f32) : Scalar.cmpf (F := Ideal) .oge x y = BitVec.ofBool (decide ((y : EReal) ≤ x)) := rfl

theorem least {P : ℕ → Prop} (N : ℕ) (h : ∃ n < N, P n) : ∃ n < N, P n ∧ ∀ n' < n, ¬ P n' := by
  classical
  have h0 : ∃ n, n < N ∧ P n := h
  refine ⟨Nat.find h0, (Nat.find_spec h0).1, (Nat.find_spec h0).2, fun n' hn' hp => ?_⟩
  exact Nat.find_min h0 hn' ⟨hn'.trans (Nat.find_spec h0).1, hp⟩

theorem beam_word (c : BitVec 1) (g : ℕ) : Scalar.addi (Scalar.muli (Scalar.select c 0#32 1#32) 4#32) (BitVec.ofNat 32 g)
    = BitVec.ofNat 32 ((if c = 1#1 then 0 else 1) * 4 + g) := by
  show (if c = 1#1 then 0#32 else 1#32) * 4#32 + BitVec.ofNat 32 g = _
  by_cases h : c = 1#1
  · simp [h]
  · simp [h, BitVec.ofNat_add]

theorem kmask_apply (j : S8x12500.Idx) : kmask j = (⊥ : EReal) := rfl

theorem word_inj (a b : ℕ) (ha : a < 100000) (hb : b < 100000) : BitVec.ofNat 32 a = BitVec.ofNat 32 b ↔ a = b :=
  WordCmp.ofNat_eq_ofNat_iff (by omega) (by omega)

theorem next_apply (x : Half) (t : ℕ) (c : BitVec 1) (j : S8x12500.Idx) (ht : t < 100000) :
    select (andi (cmpi .eq k0_pay1 (broadcast S8x12500 (BitVec.ofNat 32 t))) (broadcast S8x12500 c)) kmask x j
      = if pos j = t ∧ c = 1#1 then (⊥ : EReal) else x j := by
  show (if IntOp.andi (IntOp.cmpi .eq (k0_pay1 j) (BitVec.ofNat 32 t)) c = 1#1 then (⊥ : EReal) else x j) = _
  rw [WordCmp.cmpi_eq_eq, pay_apply]
  have h := word_inj _ _ (pos_lt j) ht
  have hc : c = 1#1 ∨ c = 0#1 := by
    rcases BitVec.eq_zero_or_eq_one c with h | h
    · exact Or.inr h
    · exact Or.inl h
  by_cases hp : pos j = t <;> rcases hc with rfl | rfl <;> simp [h, hp, IntOp.andi]

end Cert.Proof.Beam

end
-- ==== Proof.PickStep.lean ====
/- One pick of the kernel strikes the first greatest entry of a group's list. -/
module

public import proofs.«01_k».proof.Proof.PickIdeal

@[expose] public section

noncomputable section

namespace Cert.Proof.Beam

open Idealize.ShloMosaic Idealize.SL.Sem Cert.KernelIdeal Cert.KernelIdeal.Gen

section Parts
variable (a b : Half)
theorem nextA_apply (t : ℕ) (ht : t < 100000) (h : ktok a b = BitVec.ofNat 32 t) (j : S8x12500.Idx) :
    knextA a b j = if pos j = t ∧ kany a b = 1#1 then (⊥ : EReal) else a j := by
  unfold knextA; rw [h]; exact next_apply a t _ j ht
theorem nextB_apply (t : ℕ) (ht : t < 100000) (h : ktok a b = BitVec.ofNat 32 t) (j : S8x12500.Idx) :
    knextB a b j = if pos j = t ∧ Scalar.xori (kany a b) 1#1 = 1#1 then (⊥ : EReal) else b j := by
  unfold knextB; rw [h]; exact next_apply b t _ j ht
theorem ktok_eq : ktok a b = if kany a b = 1#1 then kix a (km a b) else kix b (km a b) := rfl
theorem kbeam_eq (g : ℕ) : kbeam (BitVec.ofNat 32 g) a b = BitVec.ofNat 32 ((if kany a b = 1#1 then 0 else 1) * 4 + g) :=
  beam_word _ g
theorem kany_eq : kany a b = BitVec.ofBool (decide ((kmax b : EReal) ≤ kmax a)) := oge_eq _ _
theorem max_eq (x y : Ideal .f32) : Scalar.maximumf (F := Ideal) x y = max (x : EReal) y := rfl
theorem km_eq : km a b = max (kmax a : EReal) (kmax b) := max_eq _ _

/-- What a pick of the entry `p` means. -/
def Picks (s : Half × Half) (p : Fin 200000) : Prop := First (flat s) p ∧
    km s.1 s.2 = flat s p ∧
    ktok s.1 s.2 = BitVec.ofNat 32 (p.val % 100000) ∧
    (∀ g : ℕ, kbeam (BitVec.ofNat 32 g) s.1 s.2 = BitVec.ofNat 32 (p.val / 100000 * 4 + g)) ∧
    ∀ m, flat (knextA s.1 s.2, knextB s.1 s.2) m = if m = p then ⊥ else flat s m

theorem halves : (200000 : ℕ) = 100000 + 100000 := by norm_num

theorem mod_second (n : ℕ) (h : n < 100000) : (100000 + n) % 100000 = n := by
  rw [Nat.add_mod_left, Nat.mod_eq_of_lt h]

theorem div_second (n : ℕ) (h : n < 100000) : (100000 + n) / 100000 = 1 := by
  rw [Nat.add_div_left n (by norm_num), Nat.div_eq_of_lt h]

theorem picks_first (hab : (kmax b : EReal) ≤ kmax a) (n : ℕ) (hlt : n < 100000) (hval : a (cell n) = kmax a)
    (hmin : ∀ n' < n, ¬ a (cell n') = kmax a) (hnM : n < 200000) : Picks (a, b) ⟨n, hnM⟩ := by
  have hany : kany a b = 1#1 := by rw [kany_eq, decide_eq_true hab]; rfl
  have hkm : km a b = kmax a := (km_eq a b).trans (max_eq_left hab)
  have htok : ktok a b = BitVec.ofNat 32 n := by
    rw [ktok_eq, if_pos hany, hkm]; exact kix_eq a (kmax a) n hlt hval hmin
  have hj := join_first 100000 200000 halves (fun n => a (cell n)) (fun n => b (cell n)) (kmax a) (kmax b)
    (fun k _ => le_kmax a _) (fun k _ => le_kmax b _) hab n hlt hnM hval hmin
  refine ⟨hj.1, hkm.trans hj.2.symm, ?_, ?_, ?_⟩
  · exact htok.trans (congrArg (BitVec.ofNat 32) (Nat.mod_eq_of_lt hlt).symm)
  · intro g
    refine (kbeam_eq a b g).trans ?_
    rw [if_pos hany]
    exact congrArg (fun k => BitVec.ofNat 32 (k * 4 + g)) (Nat.div_eq_of_lt hlt).symm
  · refine join_strike_first 100000 200000 _ _ _ _ n hlt hnM (fun k hk => ?_) (fun k hk => ?_) halves
    · refine (nextA_apply a b n hlt htok (cell k)).trans ?_
      rw [pos_cell k hk]
      simp only [hany, and_true]
    · refine (nextB_apply a b n hlt htok (cell k)).trans (if_neg ?_)
      rw [hany]
      exact fun h => absurd h.2 (by decide)

theorem picks_second (hab : ¬ (kmax b : EReal) ≤ kmax a) (n : ℕ) (hlt : n < 100000) (hval : b (cell n) = kmax b)
    (hmin : ∀ n' < n, ¬ b (cell n') = kmax b) (hnM : 100000 + n < 200000) : Picks (a, b) ⟨100000 + n, hnM⟩ := by
  have hany : kany a b = 0#1 := by rw [kany_eq, decide_eq_false hab]; rfl
  have hany' : ¬ kany a b = 1#1 := by rw [hany]; decide
  have hba := not_le.mp hab
  have hkm : km a b = kmax b := (km_eq a b).trans (max_eq_right hba.le)
  have htok : ktok a b = BitVec.ofNat 32 n := by
    rw [ktok_eq, if_neg hany', hkm]; exact kix_eq b (kmax b) n hlt hval hmin
  have hj := join_second 100000 200000 halves (fun n => a (cell n)) (fun n => b (cell n)) (kmax a) (kmax b)
    (fun k _ => le_kmax a _) (fun k _ => le_kmax b _) hba n hnM hval hmin
  refine ⟨hj.1, hkm.trans hj.2.symm, ?_, ?_, ?_⟩
  · exact htok.trans (congrArg (BitVec.ofNat 32) (mod_second n hlt).symm)
  · intro g
    refine (kbeam_eq a b g).trans ?_
    rw [if_neg hany']
    exact congrArg (fun k => BitVec.ofNat 32 (k * 4 + g)) (div_second n hlt).symm
  · refine join_strike_second 100000 200000 _ _ _ _ n hnM (fun k hk => ?_) (fun k hk => ?_) halves
    · refine (nextB_apply a b n hlt htok (cell k)).trans ?_
      rw [pos_cell k hk, hany]
      have hx : Scalar.xori 0#1 1#1 = 1#1 := by decide
      simp only [hx, and_true]
    · exact (nextA_apply a b n hlt htok (cell k)).trans (if_neg fun h => hany' h.2)

end Parts

theorem low_lt (n : ℕ) (h : n < 100000) : n < 200000 := h.trans (by norm_num)

theorem high_lt (n : ℕ) (h : n < 100000) : 100000 + n < 200000 := by
  rw [halves]; exact Nat.add_lt_add_left h _

/-- A pick is the first greatest entry of the list; afterwards that entry is struck out. -/
theorem pick (s : Half × Half) : ∃ p, Picks s p := by
  obtain ⟨a, b⟩ := s
  by_cases hab : (kmax b : EReal) ≤ kmax a
  · obtain ⟨n, hlt, hval, hmin⟩ := least 100000 (kmax_mem a)
    exact ⟨_, picks_first a b hab n hlt hval hmin (low_lt n hlt)⟩
  · obtain ⟨n, hlt, hval, hmin⟩ := least 100000 (kmax_mem b)
    exact ⟨_, picks_second a b hab n hlt hval hmin (high_lt n hlt)⟩

/-- The picks of a group: the greatest entries of its list, in order, equal ones by position. -/
theorem picks_top (s : Half × Half) (hs : 4 ≤ (live (flat s)).card) : ∃ p : ℕ → Fin 200000, IsTop (flat s) 4 p ∧ ∀ i < 4,
    km (kiter s i).1 (kiter s i).2 = flat s (p i) ∧
    ktok (kiter s i).1 (kiter s i).2 = BitVec.ofNat 32 ((p i).val % 100000) ∧
    ∀ g : ℕ, kbeam (BitVec.ofNat 32 g) (kiter s i).1 (kiter s i).2 = BitVec.ofNat 32 ((p i).val / 100000 * 4 + g) := by
  choose p hp using fun i => pick (kiter s i)
  obtain ⟨ht, hv⟩ := struck_isTop (flat s) (fun i => flat (kiter s i)) p rfl 4 hs (fun i _ m => (hp i).2.2.2.2 m)
    (fun i _ => (hp i).1)
  exact ⟨p, ht, fun i hi => ⟨(hp i).2.1.trans (hv i hi), (hp i).2.2.1, (hp i).2.2.2.1⟩⟩

end Cert.Proof.Beam

end
-- ==== Proof.Spec.lean ====
/- What one batch row of the search selects, and that the kernel's selection machine selects it. -/
module

public import proofs.«01_k».proof.Proof.PickStep

@[expose] public section

noncomputable section

namespace Cert.Proof.Beam

open Idealize.ShloMosaic Idealize.SL.Sem Cert.KernelIdeal Cert.KernelIdeal.Gen

/-- One batch row: per beam the score of each token, and the beam's own score. -/
structure Row where
  lp : ℕ → ℕ → EReal
  sc : ℕ → EReal

/-- The flat list of a group: both beams, each entry less half the times its token was picked before. -/
def listN (N M : ℕ) (r : Row) (c : ℕ → ℕ) (g : ℕ) (n : Fin M) : EReal :=
  r.lp (g + 4 * (n.val / N)) (n.val % N) + ((-((c (n.val % N) : ℝ) / 2) : ℝ) : EReal) + r.sc (g + 4 * (n.val / N))

abbrev Row.list (r : Row) (c : ℕ → ℕ) (g : ℕ) : Fin 200000 → EReal := listN 100000 200000 r c g

theorem some_pos : 0 < 200000 := by norm_num

/-- How many of the four picks have the token `t`. -/
def hits (x : Fin 200000 → EReal) (t : ℕ) : ℕ :=
  ∑ i ∈ Finset.range 4, if (front some_pos x i).val % 100000 = t then 1 else 0

/-- How many times the groups before `g` picked the token `t`. -/
def Row.cnt (r : Row) : ℕ → ℕ → ℕ
  | 0 => fun _ => 0
  | g + 1 => fun t => Row.cnt r g t + hits (r.list (Row.cnt r g) g) t

/-- The `i`-th pick of group `g`. -/
def Row.top (r : Row) (g i : ℕ) : Fin 200000 := front some_pos (r.list (r.cnt g) g) i

/-- A row of the kernel reads the batch row `r`. -/
structure Matches (e : RowIn) (r : Row) : Prop where
  xa : ∀ g < 4, ∀ t < 100000, e.xa g (cell t) = r.lp g t
  xb : ∀ g < 4, ∀ t < 100000, e.xb g (cell t) = r.lp (g + 4) t
  ba : ∀ g < 4, e.ba g = r.sc g
  bb : ∀ g < 4, e.bb g = r.sc (g + 4)

/-- The entries of a group whose two addends both lie above minus infinity. -/
def openEntries (N M : ℕ) (r : Row) (g : ℕ) : Finset (Fin M) := by
  classical exact Finset.univ.filter fun n => ⊥ < r.lp (g + 4 * (n.val / N)) (n.val % N) ∧ ⊥ < r.sc (g + 4 * (n.val / N))

/-- Each group of the row has four entries above minus infinity. -/
def Row.Above (r : Row) : Prop := ∀ g < 4, 4 ≤ (openEntries 100000 200000 r g).card

theorem join_list (N M : ℕ) (hM : M = N + N) (r : Row) (c : ℕ → ℕ) (g : ℕ) (a b : ℕ → EReal)
    (ha : ∀ t < N, a t = r.lp g t + r.sc g - (((c t : ℝ) / 2 : ℝ) : EReal))
    (hb : ∀ t < N, b t = r.lp (g + 4) t + r.sc (g + 4) - (((c t : ℝ) / 2 : ℝ) : EReal)) :
    join N M a b = listN N M r c g := by
  funext n
  unfold join listN
  have hn := n.isLt
  by_cases h : n.val < N
  · rw [if_pos h, ha _ h, Nat.div_eq_of_lt h, Nat.mod_eq_of_lt h, sub_eq_add_neg, ← EReal.coe_neg, add_right_comm,
      Nat.mul_zero, Nat.add_zero]
  · have e : n.val = N + (n.val - N) := by omega
    have h' : n.val - N < N := by omega
    have hd : n.val / N = 1 := by
      rw [e, Nat.add_div_left _ (by omega), Nat.div_eq_of_lt h']
    have hm : n.val % N = n.val - N := by
      conv_lhs => rw [e]
      rw [Nat.add_mod_left, Nat.mod_eq_of_lt h']
    rw [if_neg h, hb _ h', hd, hm, sub_eq_add_neg, ← EReal.coe_neg, add_right_comm]

theorem live_list (N M : ℕ) (r : Row) (c : ℕ → ℕ) (g : ℕ) : live (listN N M r c g) = openEntries N M r g := by
  ext n
  rw [mem_live]
  unfold listN openEntries
  simp only [Finset.mem_filter, Finset.mem_univ, true_and, EReal.bot_lt_add_iff, EReal.bot_lt_coe, and_true]

theorem half_word : Ideal.ofBits .f32 0x3F000000#32 = (((1 / 2 : ℝ)) : EReal) := by
  simp [Ideal.ofBits, Ideal.ieee, -EReal.coe_mul, -EReal.coe_neg]; norm_num

theorem neg_half_word : Ideal.ofBits .f32 0xBF000000#32 = ((-(1 / 2 : ℝ) : ℝ) : EReal) := by
  simp [Ideal.ofBits, Ideal.ieee, -EReal.coe_mul, -EReal.coe_neg]; norm_num

theorem khit_apply (n : ℕ) (hn : n < 100000) (t : ℕ) (ht : t < 100000) :
    khit (BitVec.ofNat 32 n) (cell t) = ((((if n = t then 1 else 0 : ℕ) : ℝ) / 2 : ℝ) : EReal) := by
  have e : khit (BitVec.ofNat 32 n) (cell t) = Ideal.ofBits .f32 0x3F000000#32
      * ((((IntOp.cmpi .eq (k0_pay1 (cell t)) (BitVec.ofNat 32 n)).setWidth 32).toInt : ℝ) : EReal) := rfl
  rw [e, pay_apply, pos_cell t ht, WordCmp.cmpi_eq_eq, half_word, ← EReal.coe_mul]
  by_cases h : n = t
  · subst h; simp
  · have h' : ¬ BitVec.ofNat 32 t = BitVec.ofNat 32 n := fun q => h ((word_inj t n ht hn).mp q).symm
    simp [h, h']

/-- What the kernel's machine selects in group `g`, when its penalty counts the earlier picks. -/
theorem group_pick (e : RowIn) (r : Row) (hm : Matches e r) (ha : r.Above) (g : ℕ) (hg : g < 4)
    (hp : ∀ t < 100000, kpen e g (cell t) = (((r.cnt g t : ℝ) / 2 : ℝ) : EReal)) (i : ℕ) (hi : i < 4) :
    km (kS e g i).1 (kS e g i).2 = r.list (r.cnt g) g (r.top g i)
      ∧ ktok (kS e g i).1 (kS e g i).2 = BitVec.ofNat 32 ((r.top g i).val % 100000)
      ∧ kbeam (BitVec.ofNat 32 g) (kS e g i).1 (kS e g i).2 = BitVec.ofNat 32 ((r.top g i).val / 100000 * 4 + g) := by
  have hf : flat (kini e g (kpen e g)) = r.list (r.cnt g) g := by
    unfold flat
    refine join_list 100000 200000 (by norm_num) r (r.cnt g) g _ _ (fun t ht => ?_) (fun t ht => ?_)
    · show (e.xa g (cell t) + e.ba g - kpen e g (cell t) : EReal) = _
      rw [hm.xa g hg t ht, hm.ba g hg, hp t ht]
    · show (e.xb g (cell t) + e.bb g - kpen e g (cell t) : EReal) = _
      rw [hm.xb g hg t ht, hm.bb g hg, hp t ht]
  obtain ⟨p, ht, hv⟩ := picks_top (kini e g (kpen e g))
    (by rw [hf]; exact (live_list 100000 200000 r (r.cnt g) g).symm ▸ ha g hg)
  rw [hf] at ht hv
  have hpi : p i = r.top g i := ht.unique (front_isTop some_pos _ 4 (by norm_num)) i hi
  obtain ⟨h1, h2, h3⟩ := hv i hi
  rw [hpi] at h1 h2 h3
  exact ⟨h1, h2, h3 g⟩

theorem pen_counts (e : RowIn) (r : Row) (hm : Matches e r) (ha : r.Above) (g : ℕ) (hg : g < 4) :
    ∀ t < 100000, kpen e g (cell t) = (((r.cnt g t : ℝ) / 2 : ℝ) : EReal) := by
  induction g with
  | zero =>
    intro t _
    have e0 : kpen e 0 (cell t) = Ideal.ofBits .f32 0x00000000#32 := rfl
    rw [e0, Ideal.ofBits_zero_f32]
    simp [Row.cnt]
  | succ g ih =>
    intro t ht
    have hp := ih (by omega)
    have hk : ∀ i < 4, khit (ktok (kS e g i).1 (kS e g i).2) (cell t)
        = ((((if (r.top g i).val % 100000 = t then 1 else 0 : ℕ) : ℝ) / 2 : ℝ) : EReal) := fun i hi => by
      rw [(group_pick e r hm ha g (by omega) hp i hi).2.1]
      exact khit_apply _ (Nat.mod_lt _ (by norm_num)) t ht
    have e1 : kpen e (g + 1) (cell t) = (kpen e g (cell t) + khit (ktok (kS e g 0).1 (kS e g 0).2) (cell t)
        + khit (ktok (kS e g 1).1 (kS e g 1).2) (cell t) + khit (ktok (kS e g 2).1 (kS e g 2).2) (cell t)
        + khit (ktok (kS e g 3).1 (kS e g 3).2) (cell t) : EReal) := rfl
    rw [e1, hp t ht, hk 0 (by norm_num), hk 1 (by norm_num), hk 2 (by norm_num), hk 3 (by norm_num)]
    have e2 : r.cnt (g + 1) t = r.cnt g t + hits (r.list (r.cnt g) g) t := rfl
    rw [e2, hits, Finset.sum_range_succ, Finset.sum_range_succ, Finset.sum_range_succ, Finset.sum_range_succ,
      Finset.sum_range_zero]
    simp only [← EReal.coe_add]
    refine congrArg _ ?_
    unfold Row.top
    push_cast
    ring

theorem row_pick (e : RowIn) (r : Row) (hm : Matches e r) (ha : r.Above) (g : ℕ) (hg : g < 4) (i : ℕ) (hi : i < 4) :
    km (kS e g i).1 (kS e g i).2 = r.list (r.cnt g) g (r.top g i)
      ∧ ktok (kS e g i).1 (kS e g i).2 = BitVec.ofNat 32 ((r.top g i).val % 100000)
      ∧ kbeam (BitVec.ofNat 32 g) (kS e g i).1 (kS e g i).2 = BitVec.ofNat 32 ((r.top g i).val / 100000 * 4 + g) :=
  group_pick e r hm ha g hg (pen_counts e r hm ha g hg) i hi

end Cert.Proof.Beam
-- ==== Proof.Trips.lean ====
/- One grid point: what the kernel's body leaves in its three blocks is, in each of the point's two batch rows, the picks of the
   selection machine on the scores that row reads. -/
module

public import proofs.«01_k».proof.Proof.Rows
public import proofs.«01_k».proof.Proof.Spec
public import proofs.«01_k».proof.Proof.Gen.KernelIdeal.Frame
public import Idealize.ShloMosaic.Lib.Pipeline.Value

@[expose] public section

set_option maxRecDepth 65536

noncomputable section

namespace Cert.Proof.Beam

open Idealize.ShloMosaic Idealize.SL.Sem Cert.KernelIdeal Cert.KernelIdeal.Gen Idealize.ShloMosaic.TcCoe

theorem two_trips : k0_t1_loop.trips = 2 := by decide +kernel

/-- The trip that writes an index of a result block: its batch row within the block. -/
def tripOf (y : S2x1x16.Idx) : Fin k0_t1_loop.trips := ⟨(y 0).val, by rw [two_trips]; exact (y 0).isLt⟩

/-! ## What the loads of a trip read -/

section Reads

variable (arg1 : Memref sig .tc .vmem S2x8x8x12500 .f32) (harg1 : arg1.IsWhole) (arg2 : Memref sig .tc .vmem S2x1x8 .f32) (harg2 : arg2.IsWhole)
  (x0 : Vec Ideal S2x8x8x12500 .f32) (x1 : Vec Ideal S2x1x8 .f32) (k : Fin k0_t1_loop.trips) (r : Row)

theorem beam_read (hx : ∀ y : S2x8x8x12500.Idx, (y 0).val = k.val → x0 y = r.lp (y 1).val ((y 2).val * 12500 + (y 3).val))
    (off : Fin 4 → ℕ) (inb : ∀ a, off a + S1x1x8x12500.size a ≤ S2x8x8x12500.size a) (b : ℕ) (hoff : off = ![k.val, b, 0, 0])
    (t : ℕ) (ht : t < 100000) :
    shapeCast S8x12500 (View.readAt (Elt Ideal) arg1.view (Rect.unit (s := S2x8x8x12500) off S1x1x8x12500.size inb).toLoadRect (harg1.unread x0))
      shapeCasts_S1x1x8x12500_S8x12500 (cell t) = r.lp b t := by
  subst hoff
  have h0 : t / 12500 < 8 := by omega
  have h1 : t % 12500 < 12500 := Nat.mod_lt _ (by norm_num)
  refine (shapeCast_apply _ _ (cell t) (fun a => match a with
    | ⟨0, _⟩ => ⟨0, Nat.one_pos⟩ | ⟨1, _⟩ => ⟨0, Nat.one_pos⟩ | ⟨2, _⟩ => ⟨t / 12500, h0⟩ | ⟨3, _⟩ => ⟨t % 12500, h1⟩ : S1x1x8x12500.Idx) ?_).trans ?_
  · rw [Shape.rowMajor_val_four, Shape.rowMajor_val_two]
    show (((0 * _ + 0) * _ + t / 12500) * 12500 + t % 12500) = (t / 12500 % 8) * 12500 + t % 12500
    rw [Nat.mod_eq_of_lt h0]; simp
  · rw [View.readAt_apply, harg1.read_unread, hx]
    · show r.lp (b + 1 * 0) ((0 + 1 * (t / 12500)) * 12500 + (0 + 1 * (t % 12500))) = _
      congr 1; omega
    · show k.val + 1 * 0 = k.val
      omega

theorem bias_read (hx : ∀ y : S2x1x8.Idx, (y 0).val = k.val → x1 y = r.sc (y 2).val)
    (off : Fin 3 → ℕ) (inb : ∀ a, off a + S1x1x1.size a ≤ S2x1x8.size a) (b : ℕ) (hoff : off = ![k.val, 0, b]) :
    extractAt ![0, 0, 0] (View.readAt (Elt Ideal) arg2.view (Rect.unit (s := S2x1x8) off S1x1x1.size inb).toLoadRect (harg2.unread x1))
      inpos_S1x1x1_p0_0_0 = r.sc b := by
  subst hoff
  unfold extractAt
  rw [View.readAt_apply, harg2.read_unread, hx]
  · rfl
  · show k.val + 1 * 0 = k.val
    omega

theorem offs (k : Fin k0_t1_loop.trips) :
    (k0_off3 k = ![k.val, 0, 0, 0] ∧ k0_off7 k = ![k.val, 1, 0, 0] ∧ k0_off11 k = ![k.val, 2, 0, 0] ∧ k0_off15 k = ![k.val, 3, 0, 0])
    ∧ (k0_off4 k = ![k.val, 4, 0, 0] ∧ k0_off8 k = ![k.val, 5, 0, 0] ∧ k0_off12 k = ![k.val, 6, 0, 0] ∧ k0_off16 k = ![k.val, 7, 0, 0])
    ∧ (k0_off1 k = ![k.val, 0, 0] ∧ k0_off5 k = ![k.val, 0, 1] ∧ k0_off9 k = ![k.val, 0, 2] ∧ k0_off13 k = ![k.val, 0, 3])
    ∧ (k0_off2 k = ![k.val, 0, 4] ∧ k0_off6 k = ![k.val, 0, 5] ∧ k0_off10 k = ![k.val, 0, 6] ∧ k0_off14 k = ![k.val, 0, 7])
    ∧ k0_off17 k = ![k.val, 0, 0] := by
  revert k; decide +kernel

/-- A trip on a block whose row is `r` reads `r`. -/
theorem trip_matches (hx : ∀ y : S2x8x8x12500.Idx, (y 0).val = k.val → x0 y = r.lp (y 1).val ((y 2).val * 12500 + (y 3).val))
    (hy : ∀ y : S2x1x8.Idx, (y 0).val = k.val → x1 y = r.sc (y 2).val) :
    Matches (tripIn arg1 arg2 (harg1.unread x0) (harg2.unread x1) k) r where
  xa g hg t ht := match g, hg with
    | 0, _ => beam_read arg1 harg1 x0 k r hx _ _ 0 (offs k).1.1 t ht
    | 1, _ => beam_read arg1 harg1 x0 k r hx _ _ 1 (offs k).1.2.1 t ht
    | 2, _ => beam_read arg1 harg1 x0 k r hx _ _ 2 (offs k).1.2.2.1 t ht
    | 3, _ => beam_read arg1 harg1 x0 k r hx _ _ 3 (offs k).1.2.2.2 t ht
  xb g hg t ht := match g, hg with
    | 0, _ => beam_read arg1 harg1 x0 k r hx _ _ 4 (offs k).2.1.1 t ht
    | 1, _ => beam_read arg1 harg1 x0 k r hx _ _ 5 (offs k).2.1.2.1 t ht
    | 2, _ => beam_read arg1 harg1 x0 k r hx _ _ 6 (offs k).2.1.2.2.1 t ht
    | 3, _ => beam_read arg1 harg1 x0 k r hx _ _ 7 (offs k).2.1.2.2.2 t ht
  ba g hg := match g, hg with
    | 0, _ => bias_read arg2 harg2 x1 k r hy _ _ 0 (offs k).2.2.1.1
    | 1, _ => bias_read arg2 harg2 x1 k r hy _ _ 1 (offs k).2.2.1.2.1
    | 2, _ => bias_read arg2 harg2 x1 k r hy _ _ 2 (offs k).2.2.1.2.2.1
    | 3, _ => bias_read arg2 harg2 x1 k r hy _ _ 3 (offs k).2.2.1.2.2.2
  bb g hg := match g, hg with
    | 0, _ => bias_read arg2 harg2 x1 k r hy _ _ 4 (offs k).2.2.2.1.1
    | 1, _ => bias_read arg2 harg2 x1 k r hy _ _ 5 (offs k).2.2.2.1.2.1
    | 2, _ => bias_read arg2 harg2 x1 k r hy _ _ 6 (offs k).2.2.2.1.2.2.1
    | 3, _ => bias_read arg2 harg2 x1 k r hy _ _ 7 (offs k).2.2.2.1.2.2.2

end Reads

/-! ## What the stores of a point leave -/

section Stores

variable (c : Dev nD) (i : grid0.Coords) (arg1 : Memref sig .tc .vmem S2x8x8x12500 .f32) (harg1 : arg1.IsWhole)
  (arg2 : Memref sig .tc .vmem S2x1x8 .f32) (harg2 : arg2.IsWhole) (arg3 : Memref sig .tc .vmem S2x1x16 .f32) (harg3 : arg3.IsWhole)
  (arg4 : Memref sig .tc .vmem S2x1x16 .i32) (harg4 : arg4.IsWhole) (arg5 : Memref sig .tc .vmem S2x1x16 .i32) (harg5 : arg5.IsWhole)
  (x0 : Vec Ideal S2x8x8x12500 .f32) (x1 : Vec Ideal S2x1x8 .f32)

/-- The lane numbers the stores select their slots by. -/
def lanes : IVec S1x1x16 32 := kernelRun0_A.sl.v5

theorem lanes_apply (j : S1x1x16.Idx) : lanes j = BitVec.ofNat 32 (j 2).val := by
  show iota .tc S1x1x16 32 [2] iota_S1x1x16_d2_w32 j = _
  exact iota_single_apply _ _ _ _ _ _

/-- The machine's state at the pick an index of a result block holds. -/
def stateAt (y : S2x1x16.Idx) := kS (tripIn arg1 arg2 (harg1.unread x0) (harg2.unread x1) (tripOf y)) ((y 2).val % 4) ((y 2).val / 4)

/-- Where a trip's store lands in the block. -/
theorem store_emb (k : Fin k0_t1_loop.trips) (j : S1x1x16.Idx) :
    tripOf ((Rect.unit (s := S2x1x16) (k0_off17 k) S1x1x16.size (k0_off17_inb k)).emb j) = k
      ∧ (((Rect.unit (s := S2x1x16) (k0_off17 k) S1x1x16.size (k0_off17_inb k)).emb j) 2).val = (j 2).val := by
  have h := (offs k).2.2.2.2
  have h0 : (j 0).val < 1 := (j 0).isLt
  constructor
  · refine Fin.ext ?_
    show k0_off17 k 0 + 1 * (j 0).val = k.val
    rw [h]
    show k.val + 1 * (j 0).val = k.val
    omega
  · show k0_off17 k 2 + 1 * (j 2).val = (j 2).val
    rw [h]
    show 0 + 1 * (j 2).val = (j 2).val
    omega

theorem trip_scores (k : Fin k0_t1_loop.trips) (j : S1x1x16.Idx) :
    k0_pay2 (trip_k0_t1.sl.r_70 (F := Ideal) arg1 arg2 lanes (harg1.unread x0) (harg2.unread x1) k) j
      = km (stateAt arg1 harg1 arg2 harg2 x0 x1 ((Rect.unit (s := S2x1x16) (k0_off17 k) S1x1x16.size (k0_off17_inb k)).emb j)).1
          (stateAt arg1 harg1 arg2 harg2 x0 x1 ((Rect.unit (s := S2x1x16) (k0_off17 k) S1x1x16.size (k0_off17_inb k)).emb j)).2 := by
  obtain ⟨e0, e2⟩ := store_emb k j
  unfold k0_pay2 stateAt
  dsimp only
  rw [e0, e2, P_33, shapeCast_shapeCast]
  exact scores_row arg1 arg2 lanes _ _ k lanes_apply j

theorem trip_tokens (k : Fin k0_t1_loop.trips) (j : S1x1x16.Idx) :
    k0_pay3 (trip_k0_t1.sl.r_68 (F := Ideal) arg1 arg2 lanes (harg1.unread x0) (harg2.unread x1) k) j
      = ktok (stateAt arg1 harg1 arg2 harg2 x0 x1 ((Rect.unit (s := S2x1x16) (k0_off17 k) S1x1x16.size (k0_off17_inb k)).emb j)).1
          (stateAt arg1 harg1 arg2 harg2 x0 x1 ((Rect.unit (s := S2x1x16) (k0_off17 k) S1x1x16.size (k0_off17_inb k)).emb j)).2 := by
  obtain ⟨e0, e2⟩ := store_emb k j
  unfold k0_pay3 stateAt
  dsimp only
  rw [e0, e2, shapeCast_shapeCast]
  exact tokens_row arg1 arg2 lanes _ _ k lanes_apply j

theorem trip_beams (k : Fin k0_t1_loop.trips) (j : S1x1x16.Idx) :
    k0_pay4 (trip_k0_t1.sl.r_69 (F := Ideal) arg1 arg2 lanes (harg1.unread x0) (harg2.unread x1) k) j
      = kbeam (BitVec.ofNat 32 ((((Rect.unit (s := S2x1x16) (k0_off17 k) S1x1x16.size (k0_off17_inb k)).emb j) 2).val % 4))
          (stateAt arg1 harg1 arg2 harg2 x0 x1 ((Rect.unit (s := S2x1x16) (k0_off17 k) S1x1x16.size (k0_off17_inb k)).emb j)).1
          (stateAt arg1 harg1 arg2 harg2 x0 x1 ((Rect.unit (s := S2x1x16) (k0_off17 k) S1x1x16.size (k0_off17_inb k)).emb j)).2 := by
  obtain ⟨e0, e2⟩ := store_emb k j
  unfold k0_pay4 stateAt
  dsimp only
  rw [e0, e2, shapeCast_shapeCast]
  exact beams_row arg1 arg2 lanes _ _ k lanes_apply j

theorem pieces_scores : ∀ n, n ≤ 2 → ∀ p ∈ (pb_k0_t1 (F := Ideal) Variants.none c none i arg1 harg1 arg2 harg2 arg3 harg3 arg4 harg4 arg5 harg5 lanes
      (harg1.unread x0) (harg2.unread x1) n).1, ∃ k : Fin k0_t1_loop.trips,
      p = ⟨Rect.unit (s := S2x1x16) (k0_off17 k) S1x1x16.size (k0_off17_inb k),
        k0_pay2 (trip_k0_t1.sl.r_70 (F := Ideal) arg1 arg2 lanes (harg1.unread x0) (harg2.unread x1) k)⟩ := by
  intro n
  induction n with
  | zero => intro _ p hp; simp [pb_k0_t1] at hp
  | succ n ih =>
    intro hn p hp
    have hk : n < k0_t1_loop.trips := by rw [two_trips]; omega
    rw [pb_k0_t1_succ (k := ⟨n, hk⟩)] at hp
    rcases List.mem_append.1 hp with hp | hp
    · unfold tripL_k0_t1 trip_k0_t1 at hp
      dsimp only at hp
      exact ⟨⟨n, hk⟩, List.mem_singleton.1 hp⟩
    · exact ih (by omega) p hp

theorem block_scores (y : S2x1x16.Idx) :
    out0_A_2 (F := Ideal) c i arg1 harg1 arg2 harg2 arg3 harg3 arg4 harg4 arg5 harg5 x0 x1 y
      = km (stateAt arg1 harg1 arg2 harg2 x0 x1 y).1 (stateAt arg1 harg1 arg2 harg2 x0 x1 y).2 := by
  unfold out0_A_2
  rw [View.read_writes_eq_canon _ _ _ (cover0_A_2 c i arg1 harg1 arg2 harg2 arg3 harg3 arg4 harg4 arg5 harg5 x0 x1)]
  refine View.canon_apply_of_pieces (fun y => km (stateAt arg1 harg1 arg2 harg2 x0 x1 y).1 (stateAt arg1 harg1 arg2 harg2 x0 x1 y).2) _ ?_ y
    (cover0_A_2 c i arg1 harg1 arg2 harg2 arg3 harg3 arg4 harg4 arg5 harg5 x0 x1 y)
  intro p hp j
  obtain ⟨k, rfl⟩ := pieces_scores c i arg1 harg1 arg2 harg2 arg3 harg3 arg4 harg4 arg5 harg5 x0 x1 2 le_rfl p hp
  exact trip_scores arg1 harg1 arg2 harg2 x0 x1 k j

theorem pieces_tokens : ∀ n, n ≤ 2 → ∀ p ∈ (pb_k0_t1 (F := Ideal) Variants.none c none i arg1 harg1 arg2 harg2 arg3 harg3 arg4 harg4 arg5 harg5 lanes
      (harg1.unread x0) (harg2.unread x1) n).2.1, ∃ k : Fin k0_t1_loop.trips,
      p = ⟨Rect.unit (s := S2x1x16) (k0_off17 k) S1x1x16.size (k0_off17_inb k),
        k0_pay3 (trip_k0_t1.sl.r_68 (F := Ideal) arg1 arg2 lanes (harg1.unread x0) (harg2.unread x1) k)⟩ := by
  intro n
  induction n with
  | zero => intro _ p hp; simp [pb_k0_t1] at hp
  | succ n ih =>
    intro hn p hp
    have hk : n < k0_t1_loop.trips := by rw [two_trips]; omega
    rw [pb_k0_t1_succ (k := ⟨n, hk⟩)] at hp
    rcases List.mem_append.1 hp with hp | hp
    · unfold tripL_k0_t1 trip_k0_t1 at hp
      dsimp only at hp
      exact ⟨⟨n, hk⟩, List.mem_singleton.1 hp⟩
    · exact ih (by omega) p hp

theorem block_tokens (y : S2x1x16.Idx) :
    out0_A_3 (F := Ideal) c i arg1 harg1 arg2 harg2 arg3 harg3 arg4 harg4 arg5 harg5 x0 x1 y
      = ktok (stateAt arg1 harg1 arg2 harg2 x0 x1 y).1 (stateAt arg1 harg1 arg2 harg2 x0 x1 y).2 := by
  unfold out0_A_3
  rw [View.read_writes_eq_canon _ _ _ (cover0_A_3 c i arg1 harg1 arg2 harg2 arg3 harg3 arg4 harg4 arg5 harg5 x0 x1)]
  refine View.canon_apply_of_pieces (fun y => ktok (stateAt arg1 harg1 arg2 harg2 x0 x1 y).1 (stateAt arg1 harg1 arg2 harg2 x0 x1 y).2) _ ?_ y
    (cover0_A_3 c i arg1 harg1 arg2 harg2 arg3 harg3 arg4 harg4 arg5 harg5 x0 x1 y)
  intro p hp j
  obtain ⟨k, rfl⟩ := pieces_tokens c i arg1 harg1 arg2 harg2 arg3 harg3 arg4 harg4 arg5 harg5 x0 x1 2 le_rfl p hp
  exact trip_tokens arg1 harg1 arg2 harg2 x0 x1 k j

theorem pieces_beams : ∀ n, n ≤ 2 → ∀ p ∈ (pb_k0_t1 (F := Ideal) Variants.none c none i arg1 harg1 arg2 harg2 arg3 harg3 arg4 harg4 arg5 harg5 lanes
      (harg1.unread x0) (harg2.unread x1) n).2.2, ∃ k : Fin k0_t1_loop.trips,
      p = ⟨Rect.unit (s := S2x1x16) (k0_off17 k) S1x1x16.size (k0_off17_inb k),
        k0_pay4 (trip_k0_t1.sl.r_69 (F := Ideal) arg1 arg2 lanes (harg1.unread x0) (harg2.unread x1) k)⟩ := by
  intro n
  induction n with
  | zero => intro _ p hp; simp [pb_k0_t1] at hp
  | succ n ih =>
    intro hn p hp
    have hk : n < k0_t1_loop.trips := by rw [two_trips]; omega
    rw [pb_k0_t1_succ (k := ⟨n, hk⟩)] at hp
    rcases List.mem_append.1 hp with hp | hp
    · unfold tripL_k0_t1 trip_k0_t1 at hp
      dsimp only at hp
      exact ⟨⟨n, hk⟩, List.mem_singleton.1 hp⟩
    · exact ih (by omega) p hp

theorem block_beams (y : S2x1x16.Idx) :
    out0_A_4 (F := Ideal) c i arg1 harg1 arg2 harg2 arg3 harg3 arg4 harg4 arg5 harg5 x0 x1 y
      = kbeam (BitVec.ofNat 32 ((y 2).val % 4)) (stateAt arg1 harg1 arg2 harg2 x0 x1 y).1 (stateAt arg1 harg1 arg2 harg2 x0 x1 y).2 := by
  unfold out0_A_4
  rw [View.read_writes_eq_canon _ _ _ (cover0_A_4 c i arg1 harg1 arg2 harg2 arg3 harg3 arg4 harg4 arg5 harg5 x0 x1)]
  refine View.canon_apply_of_pieces (fun y => kbeam (BitVec.ofNat 32 ((y 2).val % 4)) (stateAt arg1 harg1 arg2 harg2 x0 x1 y).1 (stateAt arg1 harg1 arg2 harg2 x0 x1 y).2) _ ?_ y
    (cover0_A_4 c i arg1 harg1 arg2 harg2 arg3 harg3 arg4 harg4 arg5 harg5 x0 x1 y)
  intro p hp j
  obtain ⟨k, rfl⟩ := pieces_beams c i arg1 harg1 arg2 harg2 arg3 harg3 arg4 harg4 arg5 harg5 x0 x1 2 le_rfl p hp
  exact trip_beams arg1 harg1 arg2 harg2 x0 x1 k j

end Stores

end Cert.Proof.Beam

end
-- ==== Proof.RefOps.lean ====
/- The operations the reference's groups are made of, each read at an index. -/
module

public import proofs.«01_k».proof.Proof.TopFour
public import proofs.«01_k».proof.Proof.Gen.ReferenceIdeal.Read
public import Idealize.ShloMosaic.Lib.Routing.OpsPair
public import Idealize.ShloMosaic.Lib.Routing.Words
public import Idealize.ShloMosaic.Lib.Pointwise.ShapeOpsCore
public import Idealize.ShloMosaic.Lib.ValueIdxCore
public import Idealize.ShloMosaic.Lib.WordCmp

@[expose] public section

noncomputable section

namespace Cert.Proof.Beam

open Idealize.ShloMosaic Idealize.SL.Sem

/-- The greatest four of each row of a table, and their positions. -/
theorem topK_read {B N K : ℕ} (hN : 0 < N) (x : FVec Ideal ⟨2, ![B, N]⟩ .f32)
    (h : (⟨2, ![B, N]⟩ : Shape).Slices (fun _ => 0) ⟨2, ![B, K]⟩) (hK : K ≤ N) (b : Fin B) (i : Fin K) :
    (Host.topK ⟨2, ![B, K]⟩ 1 (FloatOps.cmpfTotal .gt) x h).1 (ix2 b i)
        = x (ix2 b (front hN (fun n => (x (ix2 b n) : EReal)) i.val))
      ∧ (Host.topK ⟨2, ![B, K]⟩ 1 (FloatOps.cmpfTotal .gt) x h).2 (ix2 b i)
        = BitVec.ofNat 32 (front hN (fun n => (x (ix2 b n) : EReal)) i.val).val := by
  have hi : i.val < N := lt_of_lt_of_le i.isLt hK
  have hal : ∀ n : Fin N, (ix2 b (⟨i.val, hi⟩ : Fin N) : (⟨2, ![B, N]⟩ : Shape).Idx).along 1 n = ix2 b n := fun n => by
    funext a
    match a with
    | ⟨0, _⟩ => rfl
    | ⟨1, _⟩ => rfl
  have hcmp : ∀ n n' : Fin N, ((FloatOps.cmpfTotal (F := Ideal) .gt (x (ix2 b n)) (x (ix2 b n')) : BitVec 1) == 1#1)
      = decide ((x (ix2 b n') : EReal) < x (ix2 b n)) := fun n n' => by
    have e : FloatOps.cmpfTotal (F := Ideal) .gt (x (ix2 b n)) (x (ix2 b n'))
        = BitVec.ofBool (decide ((x (ix2 b n') : EReal) < x (ix2 b n))) := rfl
    rw [e]
    cases decide ((x (ix2 b n') : EReal) < x (ix2 b n)) <;> rfl
  have hs : ∀ j : (⟨2, ![B, N]⟩ : Shape).Idx, j = ix2 b (⟨i.val, hi⟩ : Fin N) →
      sortedFrom (fun k k' : Fin N => (FloatOps.cmpfTotal (F := Ideal) .gt (x (j.along 1 k)) (x (j.along 1 k')) : BitVec 1) == 1#1) (j 1)
        = front hN (fun n => (x (ix2 b n) : EReal)) i.val := fun j hj => by
    subst hj
    simp only [hal, hcmp]
    unfold front
    rw [dif_pos hi]
    rfl
  have hb : ∀ k : Fin 2, 0 + ((ix2 b i : (⟨2, ![B, K]⟩ : Shape).Idx) (k.cast h.1.symm)).val < (![B, N] : Fin 2 → ℕ) k := fun k => by
    rw [Nat.zero_add]
    match k with
    | ⟨0, _⟩ => exact b.isLt
    | ⟨1, _⟩ => exact hi
  have hj : (fun k => ⟨0 + ((ix2 b i : (⟨2, ![B, K]⟩ : Shape).Idx) (k.cast h.1.symm)).val, hb k⟩ : (⟨2, ![B, N]⟩ : Shape).Idx)
      = ix2 b (⟨i.val, hi⟩ : Fin N) := by
    funext k
    match k with
    | ⟨0, _⟩ => exact Fin.ext (Nat.zero_add _)
    | ⟨1, _⟩ => exact Fin.ext (Nat.zero_add _)
  have hv : ∀ j : (⟨2, ![B, N]⟩ : Shape).Idx, j = ix2 b (⟨i.val, hi⟩ : Fin N) → ∀ n : Fin N, j.along 1 n = ix2 b n := fun j e n => by
    subst e; exact hal n
  exact ⟨congrArg x ((hv _ hj _).trans (congrArg (fun n => ix2 b n) (hs _ hj))),
    congrArg (fun n : Fin N => BitVec.ofNat 32 n.val) ((congrFun (hv _ hj _) 1).trans (hs _ hj))⟩

/-! ## Words -/

/-- The sign of a word. -/
def sgnW (x : BitVec 32) : BitVec 32 := if x = 0 then 0 else if x.msb then -1 else 1

/-- Division by the vocabulary, rounded down. -/
def fdivW (x : BitVec 32) : BitVec 32 :=
  Scalar.select (IntOp.andi (IntOp.cmpi .ne (sgnW x) (sgnW 100000#32)) (IntOp.cmpi .ne (IntOp.remsi .host x 100000#32) 0#32))
    (IntOp.subi (IntOp.divsi .host x 100000#32) 1#32) (IntOp.divsi .host x 100000#32)

abbrev vocW : BitVec 32 := Scalar.select (IntOp.cmpi .eq 100000#32 0#32) 1#32 100000#32

/-- The remainder of that division. -/
def fmodW (x : BitVec 32) : BitVec 32 :=
  Scalar.select (IntOp.andi (IntOp.cmpi .ne (IntOp.cmpi .slt (IntOp.remsi .host x vocW) 0#32) (IntOp.cmpi .slt vocW 0#32))
    (IntOp.cmpi .ne (IntOp.remsi .host x vocW) 0#32)) (IntOp.addi (IntOp.remsi .host x vocW) vocW) (IntOp.remsi .host x vocW)

theorem fdivW_word (n : ℕ) (hn : n < 200000) : fdivW (BitVec.ofNat 32 n) = BitVec.ofNat 32 (n / 100000) := by
  unfold fdivW
  rw [Routing.remsi_word _ (a := n) (b := 100000) (by omega) (by norm_num) (by norm_num),
    Routing.divsi_word _ (a := n) (b := 100000) (by omega) (by norm_num) (by norm_num)]
  by_cases h0 : n = 0
  · subst h0; rfl
  · have hm : (BitVec.ofNat 32 n).msb = false := by
      rw [BitVec.msb_eq_decide]; simp; omega
    have hz : ¬ BitVec.ofNat 32 n = 0 := fun q => h0 (by
      have := congrArg BitVec.toNat q
      simp at this; omega)
    have e : IntOp.cmpi .ne (sgnW (BitVec.ofNat 32 n)) (sgnW 100000#32) = 0#1 := by
      have e1 : sgnW (BitVec.ofNat 32 n) = 1 := by unfold sgnW; rw [if_neg hz, hm]; rfl
      rw [e1]; rfl
    rw [e]
    have e2 : ∀ c : BitVec 1, IntOp.andi 0#1 c = 0#1 := by decide
    rw [e2]; rfl

theorem fmodW_word (n : ℕ) (hn : n < 200000) : fmodW (BitVec.ofNat 32 n) = BitVec.ofNat 32 (n % 100000) := by
  have hv : vocW = 100000#32 := rfl
  unfold fmodW
  rw [hv, Routing.remsi_word _ (a := n) (b := 100000) (by omega) (by norm_num) (by norm_num)]
  have hs : IntOp.cmpi .slt (BitVec.ofNat 32 (n % 100000)) 0#32 = 0#1 := by
    rw [WordCmp.cmpi_slt_zero]
    have : (BitVec.ofNat 32 (n % 100000)).toNat = n % 100000 := by simp; omega
    rw [this]
    have : ¬ 2 ^ 31 ≤ n % 100000 := by omega
    have : ¬ 2147483648 ≤ n % 100000 := by omega
    simp [this]
  rw [hs]
  have e2 : ∀ c : BitVec 1, IntOp.andi (IntOp.cmpi .ne (0#1) (IntOp.cmpi .slt 100000#32 0#32)) c = 0#1 := by decide
  rw [e2]; rfl

/-! ## The scatter -/

/-- A scatter that adds one at the words it is given counts them. -/
theorem scatter_counts {T C K w : ℕ} (d : ScatterDims ⟨2, ![T, C]⟩ ⟨3, ![T, K, 2]⟩ ⟨2, ![T, K]⟩) (hiw : d.insertedWindowDims = [0, 1])
    (hsd : d.scatterDimsToOperandDims = [0, 1]) (hivd : d.indexVectorDim = 2) (x : FVec Ideal ⟨2, ![T, C]⟩ .f32)
    (idx : IVec ⟨3, ![T, K, 2]⟩ w) (upd : FVec Ideal ⟨2, ![T, K]⟩ .f32) (tok : Fin T → Fin K → ℕ)
    (h0 : ∀ b i, (idx (ix3 b i (0 : Fin 2))).toInt = b.val) (h1 : ∀ b i, (idx (ix3 b i (1 : Fin 2))).toInt = tok b i)
    (hu : ∀ j, upd j = (((1 : ℕ) : ℝ) : EReal)) (b : Fin T) (t : Fin C) (c : ℕ) (hx : x (ix2 b t) = ((c : ℝ) : EReal)) :
    Host.scatterAdd d x idx upd (ix2 b t) = (((c + ∑ i : Fin K, if tok b i = t.val then 1 else 0 : ℕ) : ℝ) : EReal) := by
  have e : Host.scatterAdd d x idx upd (ix2 b t) = (x (ix2 b t) : EReal)
      + ∑ j ∈ Finset.univ.filter (fun j => d.resultIdx? j idx = some (ix2 b t)), (upd j : EReal) := rfl
  rw [e, hx, Finset.sum_filter, sum_idx2]
  have hr : ∀ (a : Fin T) (i : Fin K), (if d.resultIdx? (ix2 a i) idx = some (ix2 b t) then (upd (ix2 a i) : EReal) else 0)
      = if a = b then (((if tok b i = t.val then 1 else 0 : ℕ) : ℝ) : EReal) else 0 := fun a i => by
    have hl : d.resultIdx? (ix2 a i) idx = some (ix2 b t)
        ↔ (idx (ix3 a i (0 : Fin 2))).toInt = b.val ∧ (idx (ix3 a i (1 : Fin 2))).toInt = t.val := Routing.scatter_lands2 d hiw hsd hivd idx a i b t
    by_cases hab : a = b
    · subst hab
      rw [if_pos rfl, hu]
      have : d.resultIdx? (ix2 a i) idx = some (ix2 a t) ↔ tok a i = t.val := by
        rw [hl, h0, h1]; simp
      by_cases ht : tok a i = t.val
      · rw [if_pos (this.mpr ht), if_pos ht]
      · rw [if_neg (fun q => ht (this.mp q)), if_neg ht]; simp
    · rw [if_neg hab, if_neg (fun q => hab ?_)]
      have := (hl.mp q).1
      rw [h0] at this
      exact Fin.ext (by exact_mod_cast this)
  simp only [hr, Finset.sum_ite_eq', Finset.mem_univ, if_true]
  have hsw : (∑ a : Fin T, ∑ i : Fin K, if a = b then (((if tok b i = t.val then 1 else 0 : ℕ) : ℝ) : EReal) else 0)
      = ∑ i : Fin K, (((if tok b i = t.val then 1 else 0 : ℕ) : ℝ) : EReal) := by
    rw [Finset.sum_comm]
    simp
  rw [hsw]
  have hco : ∀ f : Fin K → ℕ, (∑ i, ((f i : ℝ) : EReal)) = (((∑ i, f i : ℕ) : ℝ) : EReal) := fun f => by
    push_cast
    exact (map_sum ({ toFun := fun x : ℝ => (x : EReal), map_zero' := EReal.coe_zero, map_add' := EReal.coe_add } : ℝ →+ EReal) (fun i => (f i : ℝ)) Finset.univ).symm
  rw [hco, ← EReal.coe_add]
  push_cast
  rfl

end Cert.Proof.Beam
-- ==== Proof.RefSpec.lean ====
/- The reference's three results, read at an index: what `Row` selects. -/
module

public import proofs.«01_k».proof.Proof.RefOps
public import proofs.«01_k».proof.Proof.Spec
public import Idealize.ShloMosaic.Lib.Pipeline.Value
public import Idealize.ShloMosaic.Lib.IdealHost

@[expose] public section

noncomputable section

namespace Cert.Proof.Beam

open Idealize.ShloMosaic Idealize.SL.Sem Cert.ReferenceIdeal Cert.ReferenceIdeal.Gen Cert.ReferenceIdeal.Read

abbrev X0 : Type := BufTy.Contents (Elt Ideal) (⟨S_, .i32⟩ : BufTy)
abbrev X1 : Type := BufTy.Contents (Elt Ideal) (⟨S32x8x100000, .f32⟩ : BufTy)
abbrev X2 : Type := BufTy.Contents (Elt Ideal) (⟨S32x8x4, .f32⟩ : BufTy)

/-- The step's column, before it is clamped. -/
def stepW (x0 : X0) : BitVec 32 := select (cmpi .slt (subi x0 (constantI S_ 32 1#32)) (constantI S_ 32 0#32))
  (addi (subi x0 (constantI S_ 32 1#32)) (constantI S_ 32 4#32)) (subi x0 (constantI S_ 32 1#32)) (Shape.Idx.first h_S_)

/-- The step's column. -/
def col (x0 : X0) : ℕ := (min (max (stepW x0).toInt 0) 3).toNat

theorem col_lt (x0 : X0) : col x0 < 4 := by unfold col; omega

/-- The batch row `b` of the arguments. -/
def rowOf (x0 : X0) (x1 : X1) (x2 : X2) (b : Fin 32) : Row where
  lp k t := x1 (ix3 b (⟨k % 8, Nat.mod_lt _ (by norm_num)⟩ : Fin 8) (⟨t % 100000, Nat.mod_lt _ (by norm_num)⟩ : Fin 100000))
  sc k := x2 (ix3 b (⟨k % 8, Nat.mod_lt _ (by norm_num)⟩ : Fin 8) (⟨col x0, col_lt x0⟩ : Fin 4))

/-! ## One group's list -/

/-- The biases of a group, one to each of its entries. -/
def spread (bs : FVec Ideal S32x2x1 .f32) : FVec Ideal S32x2x100000 .f32 :=
  broadcastInDim S32x2x100000 ![0, 1, 2] bcast_S32x2x1_S32x2x100000_0_1_2
    (broadcastInDim S32x2x1 ![0, 1] bcast_S32x2_S32x2x1_0_1 (shapeCast S32x2 bs shapeCasts_S32x2x1_S32x2))

/-- The penalties of a group, one to each of its entries. -/
def penal (D : FVec Ideal S32x100000 .f32) : FVec Ideal S32x2x100000 .f32 :=
  broadcastInDim S32x2x100000 ![0, 1, 2] bcast_S32x1x100000_S32x2x100000_0_1_2
    (mulf (val_main_v46 (F := Ideal)) (broadcastInDim S32x1x100000 ![0, 2] bcast_S32x100000_S32x1x100000_0_2 D))

theorem spread_apply (bs : FVec Ideal S32x2x1 .f32) (b : Fin 32) (q : Fin 2) (t : Fin 100000) :
    spread bs (ix3 b q t) = bs (ix3 b q (0 : Fin 1)) := by
  unfold spread
  refine (broadcastInDim_apply _ bcast_S32x2x1_S32x2x100000_0_1_2 _ (ix3 b q t) (ix3 b q (0 : Fin 1)) (fun a => match a with
    | ⟨0, _⟩ => by show b.val = if (32 : Nat) = 1 then 0 else b.val; rw [if_neg (by decide)]
    | ⟨1, _⟩ => by show q.val = if (2 : Nat) = 1 then 0 else q.val; rw [if_neg (by decide)]
    | ⟨2, _⟩ => by show 0 = if (1 : Nat) = 1 then 0 else t.val; rw [if_pos rfl])).trans ?_
  refine (broadcastInDim_apply _ bcast_S32x2_S32x2x1_0_1 _ (ix3 b q (0 : Fin 1)) (ix2 b q) (fun a => match a with
    | ⟨0, _⟩ => by show b.val = if (32 : Nat) = 1 then 0 else b.val; rw [if_neg (by decide)]
    | ⟨1, _⟩ => by show q.val = if (2 : Nat) = 1 then 0 else q.val; rw [if_neg (by decide)])).trans ?_
  exact shapeCast_apply bs shapeCasts_S32x2x1_S32x2 (ix2 b q) (ix3 b q (0 : Fin 1)) (by
    rewrite [Shape.rowMajor_val_three, Shape.rowMajor_val_two]
    show (b.val * 2 + q.val) * 1 + 0 = b.val * 2 + q.val
    omega)

theorem penal_apply (D : FVec Ideal S32x100000 .f32) (b : Fin 32) (q : Fin 2) (t : Fin 100000) :
    penal D (ix3 b q t) = (Ideal.ofBits .f32 0xBF000000#32 * (D (ix2 b t) : EReal) : EReal) := by
  unfold penal
  refine (broadcastInDim_apply _ bcast_S32x1x100000_S32x2x100000_0_1_2 _ (ix3 b q t) (ix3 b (0 : Fin 1) t) (fun a => match a with
    | ⟨0, _⟩ => by show b.val = if (32 : Nat) = 1 then 0 else b.val; rw [if_neg (by decide)]
    | ⟨1, _⟩ => by show 0 = if (1 : Nat) = 1 then 0 else q.val; rw [if_pos rfl]
    | ⟨2, _⟩ => by show t.val = if (100000 : Nat) = 1 then 0 else t.val; rw [if_neg (by decide)])).trans ?_
  have e : broadcastInDim S32x1x100000 ![0, 2] bcast_S32x100000_S32x1x100000_0_2 D (ix3 b (0 : Fin 1) t) = D (ix2 b t) :=
    broadcastInDim_apply _ bcast_S32x100000_S32x1x100000_0_2 _ (ix3 b (0 : Fin 1) t) (ix2 b t) (fun a => match a with
      | ⟨0, _⟩ => by show b.val = if (32 : Nat) = 1 then 0 else b.val; rw [if_neg (by decide)]
      | ⟨1, _⟩ => by show t.val = if (100000 : Nat) = 1 then 0 else t.val; rw [if_neg (by decide)])
  exact congrArg (fun y : EReal => Ideal.ofBits .f32 0xBF000000#32 * y) e

/-- A group's two beams laid end to end. -/
theorem flatten_apply {α : Type} (B N M : ℕ) (hM : M = N + N) (y : (⟨3, ![B, 2, N]⟩ : Shape).Idx → α)
    (h : (⟨3, ![B, 2, N]⟩ : Shape).ShapeCasts ⟨2, ![B, M]⟩) (b : Fin B) (n : Fin M) (hq : n.val / N < 2) (hm : n.val % N < N) :
    shapeCast ⟨2, ![B, M]⟩ y h (ix2 b n) = y (ix3 b (⟨n.val / N, hq⟩ : Fin 2) (⟨n.val % N, hm⟩ : Fin N)) :=
  shapeCast_apply y h (ix2 b n) (ix3 b (⟨n.val / N, hq⟩ : Fin 2) (⟨n.val % N, hm⟩ : Fin N)) (by
    rewrite [Shape.rowMajor_val_three, Shape.rowMajor_val_two]
    show (b.val * 2 + n.val / N) * N + n.val % N = b.val * M + n.val
    have e := Nat.div_add_mod' n.val N
    have e' : b.val * M = b.val * 2 * N := by rw [hM]; ring
    rw [Nat.add_mul]
    omega)

/-- A group's scores, from its slice, the counts and its biases. -/
def operand (xs : FVec Ideal S32x2x100000 .f32) (D : FVec Ideal S32x100000 .f32) (bs : FVec Ideal S32x2x1 .f32) :
    FVec Ideal S32x200000 .f32 :=
  shapeCast _ (addf (F := Ideal) (addf (F := Ideal) xs (penal D)) (spread bs)) shapeCasts_S32x2x100000_S32x200000

/-- The first group's scores. -/
def operand0 (xs : FVec Ideal S32x2x100000 .f32) (bs : FVec Ideal S32x2x1 .f32) : FVec Ideal S32x200000 .f32 :=
  shapeCast _ (addf (F := Ideal) xs (spread bs)) shapeCasts_S32x2x100000_S32x200000

theorem operand_0 (x0 : X0) (x1 : X1) (x2 : X2) : val_main_v18 (F := Ideal) x0 x1 x2
    = operand0 (val_main_v1 (F := Ideal) x1) (val_main_v13 (F := Ideal) x0 x2) := rfl

theorem div_lt (n : Fin 200000) : n.val / 100000 < 2 := by have := n.isLt; omega

theorem mod_lt (n : Fin 200000) : n.val % 100000 < 100000 := Nat.mod_lt _ (by norm_num)

theorem operand_list (xs : FVec Ideal S32x2x100000 .f32) (D : FVec Ideal S32x100000 .f32) (bs : FVec Ideal S32x2x1 .f32)
    (r : Row) (c : ℕ → ℕ) (g : ℕ) (b : Fin 32)
    (hx : ∀ (q : Fin 2) (t : Fin 100000), xs (ix3 b q t) = r.lp (g + 4 * q.val) t.val)
    (hb : ∀ q : Fin 2, bs (ix3 b q (0 : Fin 1)) = r.sc (g + 4 * q.val))
    (hD : ∀ t : Fin 100000, D (ix2 b t) = ((c t.val : ℝ) : EReal)) (n : Fin 200000) :
    operand xs D bs (ix2 b n) = r.list c g n := by
  unfold operand
  refine (flatten_apply 32 100000 200000 (by norm_num) _ shapeCasts_S32x2x100000_S32x200000 b n (div_lt n) (mod_lt n)).trans ?_
  show (xs (ix3 b (⟨n.val / 100000, div_lt n⟩ : Fin 2) (⟨n.val % 100000, mod_lt n⟩ : Fin 100000))
    + penal D (ix3 b (⟨n.val / 100000, div_lt n⟩ : Fin 2) (⟨n.val % 100000, mod_lt n⟩ : Fin 100000))
    + spread bs (ix3 b (⟨n.val / 100000, div_lt n⟩ : Fin 2) (⟨n.val % 100000, mod_lt n⟩ : Fin 100000)) : EReal) = _
  rw [hx, penal_apply, spread_apply, hb, hD, neg_half_word, ← EReal.coe_mul]
  unfold Row.list listN
  have e : (-(1 / 2 : ℝ) * (c (n.val % 100000) : ℝ)) = -((c (n.val % 100000) : ℝ) / 2) := by ring
  show (_ + ((-(1 / 2 : ℝ) * (c (n.val % 100000) : ℝ) : ℝ) : EReal) + _ : EReal) = _
  rw [e]

theorem operand0_list (xs : FVec Ideal S32x2x100000 .f32) (bs : FVec Ideal S32x2x1 .f32) (r : Row) (b : Fin 32)
    (hx : ∀ (q : Fin 2) (t : Fin 100000), xs (ix3 b q t) = r.lp (0 + 4 * q.val) t.val)
    (hb : ∀ q : Fin 2, bs (ix3 b q (0 : Fin 1)) = r.sc (0 + 4 * q.val)) (n : Fin 200000) :
    operand0 xs bs (ix2 b n) = r.list (r.cnt 0) 0 n := by
  unfold operand0
  refine (flatten_apply 32 100000 200000 (by norm_num) _ shapeCasts_S32x2x100000_S32x200000 b n (div_lt n) (mod_lt n)).trans ?_
  show (xs (ix3 b (⟨n.val / 100000, div_lt n⟩ : Fin 2) (⟨n.val % 100000, mod_lt n⟩ : Fin 100000))
    + spread bs (ix3 b (⟨n.val / 100000, div_lt n⟩ : Fin 2) (⟨n.val % 100000, mod_lt n⟩ : Fin 100000)) : EReal) = _
  rw [hx, spread_apply, hb]
  unfold Row.list listN
  have e : ((-((r.cnt 0 (n.val % 100000) : ℝ) / 2) : ℝ) : EReal) = 0 := by simp [Row.cnt]
  rw [e, add_zero]

theorem operand_1 (x0 : X0) (x1 : X1) (x2 : X2) : val_main_v65 (F := Ideal) x0 x1 x2
    = operand (val_main_v43 (F := Ideal) x1) (val_main_v42 (F := Ideal) x0 x1 x2) (val_main_v60 (F := Ideal) x0 x2) := rfl

theorem operand_2 (x0 : X0) (x1 : X1) (x2 : X2) : val_main_v112 (F := Ideal) x0 x1 x2
    = operand (val_main_v90 (F := Ideal) x1) (val_main_v89 (F := Ideal) x0 x1 x2) (val_main_v107 (F := Ideal) x0 x2) := rfl

theorem operand_3 (x0 : X0) (x1 : X1) (x2 : X2) : val_main_v159 (F := Ideal) x0 x1 x2
    = operand (val_main_v137 (F := Ideal) x1) (val_main_v136 (F := Ideal) x0 x1 x2) (val_main_v154 (F := Ideal) x0 x2) := rfl

/-! ## One group's words -/

/-- The counts after a group's tokens. -/
def scat (D : FVec Ideal S32x100000 .f32) (M : IVec S32x4 32) : FVec Ideal S32x100000 .f32 :=
  Host.scatterAdd scatter_S32x100000_S32x4x2_S32x4_n_01_01_2 D
    (concatenate S32x4x2 2 [⟨S32x4x1, (val_main_v38 (F := Ideal) : IVec S32x4x1 32)⟩,
      ⟨S32x4x1, (broadcastInDim S32x4x1 ![0, 1] bcast_S32x4_S32x4x1_0_1
        (select (cmpi .slt M (val_main_v32 (F := Ideal))) (addi M (val_main_v34 (F := Ideal))) M) : IVec S32x4x1 32)⟩]
      concatenates_S32x4x1_S32x4x1_S32x4x2_d2) (val_main_v41 (F := Ideal))

theorem scat_1 (x0 : X0) (x1 : X1) (x2 : X2) : val_main_v42 (F := Ideal) x0 x1 x2
    = scat (val_main_v0 (F := Ideal)) (val_main_v20 (F := Ideal) x0 x1 x2) := rfl

theorem scat_2 (x0 : X0) (x1 : X1) (x2 : X2) : val_main_v89 (F := Ideal) x0 x1 x2
    = scat (val_main_v42 (F := Ideal) x0 x1 x2) (val_main_v67 (F := Ideal) x0 x1 x2) := rfl

theorem scat_3 (x0 : X0) (x1 : X1) (x2 : X2) : val_main_v136 (F := Ideal) x0 x1 x2
    = scat (val_main_v89 (F := Ideal) x0 x1 x2) (val_main_v114 (F := Ideal) x0 x1 x2) := rfl

theorem row_word (b : Fin 32) (i : Fin 4) : (val_main_v38 (F := Ideal) (ix3 b i (0 : Fin 1)) : BitVec 32) = BitVec.ofNat 32 b.val := by
  have e : (val_main_v38 (F := Ideal) (ix3 b i (0 : Fin 1)) : BitVec 32)
      = Scalar.select (IntOp.cmpi .slt (BitVec.ofNat 32 b.val) 0#32) (IntOp.addi (BitVec.ofNat 32 b.val) 32#32) (BitVec.ofNat 32 b.val) := by
    rw [val_main_v38_apply, val_main_v37_apply]; rfl
  rw [e]
  refine Routing.wrap_of_lt _ _ ?_
  have := b.isLt
  simp; omega

theorem scat_counts (D : FVec Ideal S32x100000 .f32) (M : IVec S32x4 32) (b : Fin 32) (c : ℕ → ℕ) (tok : Fin 32 → Fin 4 → ℕ)
    (htok : ∀ b i, tok b i < 100000) (hM : ∀ b i, M (ix2 b i) = BitVec.ofNat 32 (tok b i))
    (hD : ∀ t : Fin 100000, D (ix2 b t) = ((c t.val : ℝ) : EReal)) (t : Fin 100000) :
    scat D M (ix2 b t) = (((c t.val + ∑ i : Fin 4, if tok b i = t.val then 1 else 0 : ℕ) : ℝ) : EReal) := by
  unfold scat
  refine scatter_counts scatter_S32x100000_S32x4x2_S32x4_n_01_01_2 rfl rfl rfl D _ _ tok (fun b i => ?_) (fun b i => ?_)
    (fun j => ?_) b t (c t.val) (hD t)
  · refine (congrArg BitVec.toInt (concatenate_pair_apply_left (s₁ := S32x4x1) (s₂ := S32x4x1) (t := S32x4x2) 2 _ _ _ (ix3 b i (0 : Fin 2)) rfl
      (ix3 b i (0 : Fin 1)) (fun a => match a with
        | ⟨0, _⟩ => rfl
        | ⟨1, _⟩ => rfl
        | ⟨2, _⟩ => rfl))).trans ?_
    rw [row_word]
    exact WordCmp.toInt_ofNat_of_lt (by have := b.isLt; norm_num; omega)
  · refine (congrArg BitVec.toInt (concatenate_pair_apply_right (s₁ := S32x4x1) (s₂ := S32x4x1) (t := S32x4x2) 2 _ _ _ (ix3 b i (1 : Fin 2)) rfl rfl
      (ix3 b i (0 : Fin 1)) (fun a ha => match a, ha with
        | ⟨0, _⟩, _ => rfl
        | ⟨1, _⟩, _ => rfl
        | ⟨2, _⟩, ha => absurd rfl ha) rfl)).trans ?_
    have e := broadcastInDim_apply _ bcast_S32x4_S32x4x1_0_1
        (select (cmpi .slt M (val_main_v32 (F := Ideal))) (addi M (val_main_v34 (F := Ideal))) M) (ix3 b i (0 : Fin 1)) (ix2 b i)
        (fun a => match a with
      | ⟨0, _⟩ => by show b.val = if (32 : Nat) = 1 then 0 else b.val; rw [if_neg (by decide)]
      | ⟨1, _⟩ => by show i.val = if (4 : Nat) = 1 then 0 else i.val; rw [if_neg (by decide)])
    have e' : (select (cmpi .slt M (val_main_v32 (F := Ideal))) (addi M (val_main_v34 (F := Ideal))) M) (ix2 b i)
        = Scalar.select (IntOp.cmpi .slt (M (ix2 b i)) 0#32) (IntOp.addi (M (ix2 b i)) 100000#32) (M (ix2 b i)) := rfl
    have hl := htok b i
    refine (congrArg BitVec.toInt (e.trans e')).trans ?_
    rw [hM, Routing.wrap_of_lt _ _ (by simp; omega)]
    exact WordCmp.toInt_ofNat_of_lt (by norm_num; omega)
  · have e : (val_main_v41 (F := Ideal) j : EReal) = Ideal.ofBits .f32 0x3F800000#32 := rfl
    rw [e, Ideal.ofBits_one_f32]
    simp

/-- The tokens of a group's positions. -/
def tokens (I : IVec S32x4 32) : IVec S32x4 32 := fun j => fmodW (I j)

/-- The beams of a group's positions. -/
def beams (g : BitVec 32) (I : IVec S32x4 32) : IVec S32x4 32 := fun j => IntOp.addi (IntOp.muli (fdivW (I j)) 4#32) g

theorem tokens_0 (x0 : X0) (x1 : X1) (x2 : X2) : val_main_v20 (F := Ideal) x0 x1 x2
    = tokens (val_main_indices (F := Ideal) x0 x1 x2) := rfl
theorem tokens_1 (x0 : X0) (x1 : X1) (x2 : X2) : val_main_v67 (F := Ideal) x0 x1 x2
    = tokens (val_main_indices_36 (F := Ideal) x0 x1 x2) := rfl
theorem tokens_2 (x0 : X0) (x1 : X1) (x2 : X2) : val_main_v114 (F := Ideal) x0 x1 x2
    = tokens (val_main_indices_61 (F := Ideal) x0 x1 x2) := rfl
theorem tokens_3 (x0 : X0) (x1 : X1) (x2 : X2) : val_main_v161 (F := Ideal) x0 x1 x2
    = tokens (val_main_indices_86 (F := Ideal) x0 x1 x2) := rfl

theorem beams_0 (x0 : X0) (x1 : X1) (x2 : X2) : val_main_v24 (F := Ideal) x0 x1 x2
    = beams 0#32 (val_main_indices (F := Ideal) x0 x1 x2) := rfl
theorem beams_1 (x0 : X0) (x1 : X1) (x2 : X2) : val_main_v71 (F := Ideal) x0 x1 x2
    = beams 1#32 (val_main_indices_36 (F := Ideal) x0 x1 x2) := rfl
theorem beams_2 (x0 : X0) (x1 : X1) (x2 : X2) : val_main_v118 (F := Ideal) x0 x1 x2
    = beams 2#32 (val_main_indices_61 (F := Ideal) x0 x1 x2) := rfl
theorem beams_3 (x0 : X0) (x1 : X1) (x2 : X2) : val_main_v165 (F := Ideal) x0 x1 x2
    = beams 3#32 (val_main_indices_86 (F := Ideal) x0 x1 x2) := rfl

/-! ## The groups, one after another -/

theorem slice_lp (x1 : X1) (x0 : X0) (x2 : X2) (b : Fin 32) (g : ℕ) (hg : g < 4) (q : Fin 2) (t : Fin 100000)
    (j : S32x8x100000.Idx) (h0 : (j 0).val = b.val) (h1 : (j 1).val = g + 4 * q.val) (h2 : (j 2).val = t.val) :
    x1 j = (rowOf x0 x1 x2 b).lp (g + 4 * q.val) t.val := by
  show x1 j = x1 (ix3 b (⟨(g + 4 * q.val) % 8, _⟩ : Fin 8) (⟨t.val % 100000, _⟩ : Fin 100000))
  refine congrArg x1 (funext fun a => ?_)
  have := q.isLt
  have := t.isLt
  match a with
  | ⟨0, _⟩ => exact Fin.ext h0
  | ⟨1, _⟩ => exact Fin.ext (h1.trans (Nat.mod_eq_of_lt (by omega)).symm)
  | ⟨2, _⟩ => exact Fin.ext (h2.trans (Nat.mod_eq_of_lt (by omega)).symm)

theorem slice_sc (x1 : X1) (x0 : X0) (x2 : X2) (b : Fin 32) (g : ℕ) (hg : g < 4) (q : Fin 2)
    (j : S32x8x4.Idx) (h0 : (j 0).val = b.val) (h1 : (j 1).val = g + 4 * q.val) (h2 : (j 2).val = col x0) :
    x2 j = (rowOf x0 x1 x2 b).sc (g + 4 * q.val) := by
  show x2 j = x2 (ix3 b (⟨(g + 4 * q.val) % 8, _⟩ : Fin 8) (⟨col x0, _⟩ : Fin 4))
  refine congrArg x2 (funext fun a => ?_)
  have := q.isLt
  match a with
  | ⟨0, _⟩ => exact Fin.ext h0
  | ⟨1, _⟩ => exact Fin.ext (h1.trans (Nat.mod_eq_of_lt (by omega)).symm)
  | ⟨2, _⟩ => exact Fin.ext h2

/-- A column of the scores, cut out at the words `p`. -/
def column (y : FVec Ideal S32x2x4 .f32) (p : Fin 3 → ℤ) : FVec Ideal S32x2x1 .f32 :=
  Host.dynamicSlice S32x2x1 y p sliceFits_S32x2x4_S32x2x1

theorem column_sc (x1 : X1) (x0 : X0) (x2 : X2) (b : Fin 32) (g : ℕ) (hg : g < 4) (q : Fin 2) (y : FVec Ideal S32x2x4 .f32)
    (p : Fin 3 → ℤ) (h0 : p 0 = 0) (h1 : p 1 = 0) (h2 : p 2 = (stepW x0).toInt)
    (hy : ∀ j : S32x2x4.Idx, (j 0).val = b.val → (j 1).val = q.val → (j 2).val = col x0 →
      y j = (rowOf x0 x1 x2 b).sc (g + 4 * q.val)) :
    column y p (ix3 b q (0 : Fin 1)) = (rowOf x0 x1 x2 b).sc (g + 4 * q.val) := by
  unfold column
  rw [Host.dynamicSlice_apply]
  refine hy _ ?_ ?_ ?_
  · show (min (max (p 0) 0) ((32 - 32 : ℕ) : ℤ)).toNat + b.val = b.val
    rw [h0]; simp
  · show (min (max (p 1) 0) ((2 - 2 : ℕ) : ℤ)).toNat + q.val = q.val
    rw [h1]; simp
  · show (min (max (p 2) 0) ((4 - 1 : ℕ) : ℤ)).toNat + 0 = col x0
    rw [h2]; rfl

/-- What a group selects, its list being the row's. -/
theorem group_select (X : FVec Ideal S32x200000 .f32) (r : Row) (g : ℕ) (b : Fin 32)
    (hX : ∀ n : Fin 200000, X (ix2 b n) = r.list (r.cnt g) g n) (i : Fin 4) :
    (Host.topK S32x4 1 (FloatOps.cmpfTotal .gt) X sliceFits_S32x200000_S32x4).1 (ix2 b i)
        = r.list (r.cnt g) g (r.top g i.val)
      ∧ (Host.topK S32x4 1 (FloatOps.cmpfTotal .gt) X sliceFits_S32x200000_S32x4).2 (ix2 b i)
        = BitVec.ofNat 32 (r.top g i.val).val := by
  have h := topK_read some_pos X sliceFits_S32x200000_S32x4 (by norm_num) b i
  have e : (fun n => (X (ix2 b n) : EReal)) = r.list (r.cnt g) g := funext hX
  rw [e, hX] at h
  exact h

theorem cnt_step (r : Row) (g t : ℕ) :
    r.cnt (g + 1) t = r.cnt g t + ∑ i : Fin 4, if (r.top g i.val).val % 100000 = t then 1 else 0 := by
  have e : r.cnt (g + 1) t = r.cnt g t + hits (r.list (r.cnt g) g) t := rfl
  rw [e, hits, Finset.sum_range]
  rfl

theorem top_lt (r : Row) (g i : ℕ) : (r.top g i).val < 200000 := (r.top g i).isLt

theorem tokens_word (I : IVec S32x4 32) (r : Row) (g : ℕ) (b : Fin 32) (i : Fin 4)
    (hI : I (ix2 b i) = BitVec.ofNat 32 (r.top g i.val).val) :
    tokens I (ix2 b i) = BitVec.ofNat 32 ((r.top g i.val).val % 100000) := by
  unfold tokens
  rw [hI]
  exact fmodW_word _ (top_lt r g i.val)

theorem beams_word (I : IVec S32x4 32) (r : Row) (g : ℕ) (b : Fin 32) (i : Fin 4)
    (hI : I (ix2 b i) = BitVec.ofNat 32 (r.top g i.val).val) :
    beams (BitVec.ofNat 32 g) I (ix2 b i) = BitVec.ofNat 32 ((r.top g i.val).val / 100000 * 4 + g) := by
  unfold beams
  rw [hI, fdivW_word _ (top_lt r g i.val)]
  show BitVec.ofNat 32 _ * 4#32 + BitVec.ofNat 32 g = _
  rw [BitVec.ofNat_add, BitVec.ofNat_mul]

/-- The counts after a group. -/
theorem scat_next (D : FVec Ideal S32x100000 .f32) (I : IVec S32x4 32) (r : Fin 32 → Row) (g : ℕ)
    (hI : ∀ b i, I (ix2 b i) = BitVec.ofNat 32 ((r b).top g i.val).val)
    (hD : ∀ b (t : Fin 100000), D (ix2 b t) = (((r b).cnt g t.val : ℝ) : EReal)) (b : Fin 32) (t : Fin 100000) :
    scat D (tokens I) (ix2 b t) = (((r b).cnt (g + 1) t.val : ℝ) : EReal) := by
  rw [scat_counts D (tokens I) b ((r b).cnt g) (fun b i => ((r b).top g i.val).val % 100000)
    (fun _ _ => Nat.mod_lt _ (by norm_num)) (fun b i => tokens_word I (r b) g b i (hI b i)) (hD b) t, cnt_step]

section Groups
variable (x0 : X0) (x1 : X1) (x2 : X2)

theorem list_0 (b : Fin 32) (n : Fin 200000) : val_main_v18 (F := Ideal) x0 x1 x2 (ix2 b n)
    = (rowOf x0 x1 x2 b).list ((rowOf x0 x1 x2 b).cnt 0) 0 n := by
  rw [operand_0]
  exact operand0_list _ _ _ b (fun q t => slice_lp x1 x0 x2 b 0 (by norm_num) q t _ (by show 0 + 1 * b.val = _; omega) rfl (by show 0 + 1 * t.val = _; omega))
    (fun q => column_sc x1 x0 x2 b 0 (by norm_num) q (val_main_v2 (F := Ideal) x2) _ rfl rfl rfl
      (fun j h0 h1 h2 => slice_sc x1 x0 x2 b 0 (by norm_num) q _ (by show 0 + 1 * (j 0).val = _; omega) (by show 0 + 4 * (j 1).val = _; omega)
        (by show 0 + 1 * (j 2).val = _; omega))) n

theorem counts_0 (b : Fin 32) (t : Fin 100000) : val_main_v0 (F := Ideal) (ix2 b t)
    = (((rowOf x0 x1 x2 b).cnt 0 t.val : ℝ) : EReal) := by
  have e : (val_main_v0 (F := Ideal) (ix2 b t) : EReal) = Ideal.ofBits .f32 0x00000000#32 := rfl
  rw [e, Ideal.ofBits_zero_f32]
  simp [Row.cnt]

theorem select_0 (b : Fin 32) (i : Fin 4) :
    val_main_values (F := Ideal) x0 x1 x2 (ix2 b i)
        = (rowOf x0 x1 x2 b).list ((rowOf x0 x1 x2 b).cnt 0) 0 ((rowOf x0 x1 x2 b).top 0 i.val)
      ∧ val_main_indices (F := Ideal) x0 x1 x2 (ix2 b i) = BitVec.ofNat 32 ((rowOf x0 x1 x2 b).top 0 i.val).val :=
  group_select (val_main_v18 (F := Ideal) x0 x1 x2) (rowOf x0 x1 x2 b) 0 b (list_0 x0 x1 x2 b) i

theorem counts_1 (b : Fin 32) (t : Fin 100000) : val_main_v42 (F := Ideal) x0 x1 x2 (ix2 b t)
    = (((rowOf x0 x1 x2 b).cnt 1 t.val : ℝ) : EReal) := by
  rw [scat_1, tokens_0]
  exact scat_next _ _ (rowOf x0 x1 x2) 0 (fun b i => (select_0 x0 x1 x2 b i).2) (fun b t => counts_0 x0 x1 x2 b t) b t

theorem list_1 (b : Fin 32) (n : Fin 200000) : val_main_v65 (F := Ideal) x0 x1 x2 (ix2 b n)
    = (rowOf x0 x1 x2 b).list ((rowOf x0 x1 x2 b).cnt 1) 1 n := by
  rw [operand_1]
  exact operand_list _ _ _ _ _ 1 b (fun q t => slice_lp x1 x0 x2 b 1 (by norm_num) q t _ (by show 0 + 1 * b.val = _; omega) rfl (by show 0 + 1 * t.val = _; omega))
    (fun q => column_sc x1 x0 x2 b 1 (by norm_num) q (val_main_v44 (F := Ideal) x2) _ rfl rfl rfl
      (fun j h0 h1 h2 => slice_sc x1 x0 x2 b 1 (by norm_num) q _ (by show 0 + 1 * (j 0).val = _; omega) (by show 1 + 4 * (j 1).val = _; omega)
        (by show 0 + 1 * (j 2).val = _; omega))) (fun t => counts_1 x0 x1 x2 b t) n

theorem select_1 (b : Fin 32) (i : Fin 4) :
    val_main_values_35 (F := Ideal) x0 x1 x2 (ix2 b i)
        = (rowOf x0 x1 x2 b).list ((rowOf x0 x1 x2 b).cnt 1) 1 ((rowOf x0 x1 x2 b).top 1 i.val)
      ∧ val_main_indices_36 (F := Ideal) x0 x1 x2 (ix2 b i) = BitVec.ofNat 32 ((rowOf x0 x1 x2 b).top 1 i.val).val :=
  group_select (val_main_v65 (F := Ideal) x0 x1 x2) (rowOf x0 x1 x2 b) 1 b (list_1 x0 x1 x2 b) i

theorem counts_2 (b : Fin 32) (t : Fin 100000) : val_main_v89 (F := Ideal) x0 x1 x2 (ix2 b t)
    = (((rowOf x0 x1 x2 b).cnt 2 t.val : ℝ) : EReal) := by
  rw [scat_2, tokens_1]
  exact scat_next _ _ (rowOf x0 x1 x2) 1 (fun b i => (select_1 x0 x1 x2 b i).2) (fun b t => counts_1 x0 x1 x2 b t) b t

theorem list_2 (b : Fin 32) (n : Fin 200000) : val_main_v112 (F := Ideal) x0 x1 x2 (ix2 b n)
    = (rowOf x0 x1 x2 b).list ((rowOf x0 x1 x2 b).cnt 2) 2 n := by
  rw [operand_2]
  exact operand_list _ _ _ _ _ 2 b (fun q t => slice_lp x1 x0 x2 b 2 (by norm_num) q t _ (by show 0 + 1 * b.val = _; omega) rfl (by show 0 + 1 * t.val = _; omega))
    (fun q => column_sc x1 x0 x2 b 2 (by norm_num) q (val_main_v91 (F := Ideal) x2) _ rfl rfl rfl
      (fun j h0 h1 h2 => slice_sc x1 x0 x2 b 2 (by norm_num) q _ (by show 0 + 1 * (j 0).val = _; omega) (by show 2 + 4 * (j 1).val = _; omega)
        (by show 0 + 1 * (j 2).val = _; omega))) (fun t => counts_2 x0 x1 x2 b t) n

theorem select_2 (b : Fin 32) (i : Fin 4) :
    val_main_values_60 (F := Ideal) x0 x1 x2 (ix2 b i)
        = (rowOf x0 x1 x2 b).list ((rowOf x0 x1 x2 b).cnt 2) 2 ((rowOf x0 x1 x2 b).top 2 i.val)
      ∧ val_main_indices_61 (F := Ideal) x0 x1 x2 (ix2 b i) = BitVec.ofNat 32 ((rowOf x0 x1 x2 b).top 2 i.val).val :=
  group_select (val_main_v112 (F := Ideal) x0 x1 x2) (rowOf x0 x1 x2 b) 2 b (list_2 x0 x1 x2 b) i

theorem counts_3 (b : Fin 32) (t : Fin 100000) : val_main_v136 (F := Ideal) x0 x1 x2 (ix2 b t)
    = (((rowOf x0 x1 x2 b).cnt 3 t.val : ℝ) : EReal) := by
  rw [scat_3, tokens_2]
  exact scat_next _ _ (rowOf x0 x1 x2) 2 (fun b i => (select_2 x0 x1 x2 b i).2) (fun b t => counts_2 x0 x1 x2 b t) b t

theorem list_3 (b : Fin 32) (n : Fin 200000) : val_main_v159 (F := Ideal) x0 x1 x2 (ix2 b n)
    = (rowOf x0 x1 x2 b).list ((rowOf x0 x1 x2 b).cnt 3) 3 n := by
  rw [operand_3]
  exact operand_list _ _ _ _ _ 3 b (fun q t => slice_lp x1 x0 x2 b 3 (by norm_num) q t _ (by show 0 + 1 * b.val = _; omega) rfl (by show 0 + 1 * t.val = _; omega))
    (fun q => column_sc x1 x0 x2 b 3 (by norm_num) q (val_main_v138 (F := Ideal) x2) _ rfl rfl rfl
      (fun j h0 h1 h2 => slice_sc x1 x0 x2 b 3 (by norm_num) q _ (by show 0 + 1 * (j 0).val = _; omega) (by show 3 + 4 * (j 1).val = _; omega)
        (by show 0 + 1 * (j 2).val = _; omega))) (fun t => counts_3 x0 x1 x2 b t) n

theorem select_3 (b : Fin 32) (i : Fin 4) :
    val_main_values_85 (F := Ideal) x0 x1 x2 (ix2 b i)
        = (rowOf x0 x1 x2 b).list ((rowOf x0 x1 x2 b).cnt 3) 3 ((rowOf x0 x1 x2 b).top 3 i.val)
      ∧ val_main_indices_86 (F := Ideal) x0 x1 x2 (ix2 b i) = BitVec.ofNat 32 ((rowOf x0 x1 x2 b).top 3 i.val).val :=
  group_select (val_main_v159 (F := Ideal) x0 x1 x2) (rowOf x0 x1 x2 b) 3 b (list_3 x0 x1 x2 b) i

/-- Four tables side by side, the slot `4 i + g` of a row being entry `i` of the table `g`. -/
theorem slots_apply {α : Type} (f : Fin 4 → S32x4.Idx → α) (y : Fin 4 → S32x4x1.Idx → α)
    (hy : ∀ g b i, y g (ix3 b i (0 : Fin 1)) = f g (ix2 b i)) (h : S32x4x4.ShapeCasts S32x16)
    (hc : Shape.Concatenates [S32x4x1, S32x4x1, S32x4x1, S32x4x1] S32x4x4 2) (b : Fin 32) (s : Fin 16) :
    shapeCast S32x16 (concatenate S32x4x4 2 [⟨S32x4x1, y 0⟩, ⟨S32x4x1, y 1⟩, ⟨S32x4x1, y 2⟩, ⟨S32x4x1, y 3⟩] hc) h (ix2 b s)
      = f (⟨s.val % 4, Nat.mod_lt _ (by norm_num)⟩ : Fin 4) (ix2 b (⟨s.val / 4, by have := s.isLt; omega⟩ : Fin 4)) := by
  refine (shapeCast_apply _ h (ix2 b s) (ix3 b (⟨s.val / 4, by have := s.isLt; omega⟩ : Fin 4)
    (⟨s.val % 4, Nat.mod_lt _ (by norm_num)⟩ : Fin 4)) (by
      rewrite [Shape.rowMajor_val_three, Shape.rowMajor_val_two]
      show (b.val * 4 + s.val / 4) * 4 + s.val % 4 = b.val * 16 + s.val
      omega)).trans ?_
  generalize (⟨s.val / 4, _⟩ : Fin 4) = i
  generalize (⟨s.val % 4, _⟩ : Fin 4) = g
  refine Eq.trans ?_ (hy g b i)
  match g with
  | ⟨0, _⟩ =>
    exact concatenate_apply_piece (t := S32x4x4) 2 [⟨S32x4x1, y 0⟩, ⟨S32x4x1, y 1⟩, ⟨S32x4x1, y 2⟩, ⟨S32x4x1, y 3⟩] hc (ix3 b i (0 : Fin 4)) 0 (by simp) S32x4x1 (y 0) rfl rfl 0 rfl (ix3 b i (0 : Fin 1))
      (fun a ha => match a, ha with
        | ⟨0, _⟩, _ => rfl
        | ⟨1, _⟩, _ => rfl
        | ⟨2, _⟩, ha => absurd rfl ha) rfl
  | ⟨1, _⟩ =>
    exact concatenate_apply_piece (t := S32x4x4) 2 [⟨S32x4x1, y 0⟩, ⟨S32x4x1, y 1⟩, ⟨S32x4x1, y 2⟩, ⟨S32x4x1, y 3⟩] hc (ix3 b i (1 : Fin 4)) 1 (by simp) S32x4x1 (y 1) rfl rfl 1 rfl (ix3 b i (0 : Fin 1))
      (fun a ha => match a, ha with
        | ⟨0, _⟩, _ => rfl
        | ⟨1, _⟩, _ => rfl
        | ⟨2, _⟩, ha => absurd rfl ha) rfl
  | ⟨2, _⟩ =>
    exact concatenate_apply_piece (t := S32x4x4) 2 [⟨S32x4x1, y 0⟩, ⟨S32x4x1, y 1⟩, ⟨S32x4x1, y 2⟩, ⟨S32x4x1, y 3⟩] hc (ix3 b i (2 : Fin 4)) 2 (by simp) S32x4x1 (y 2) rfl rfl 2 rfl (ix3 b i (0 : Fin 1))
      (fun a ha => match a, ha with
        | ⟨0, _⟩, _ => rfl
        | ⟨1, _⟩, _ => rfl
        | ⟨2, _⟩, ha => absurd rfl ha) rfl
  | ⟨3, _⟩ =>
    exact concatenate_apply_piece (t := S32x4x4) 2 [⟨S32x4x1, y 0⟩, ⟨S32x4x1, y 1⟩, ⟨S32x4x1, y 2⟩, ⟨S32x4x1, y 3⟩] hc (ix3 b i (3 : Fin 4)) 3 (by simp) S32x4x1 (y 3) rfl rfl 3 rfl (ix3 b i (0 : Fin 1))
      (fun a ha => match a, ha with
        | ⟨0, _⟩, _ => rfl
        | ⟨1, _⟩, _ => rfl
        | ⟨2, _⟩, ha => absurd rfl ha) rfl

/-- A column made of each entry of a table. -/
theorem column_apply {α : Type} (f : S32x4.Idx → α) (b : Fin 32) (i : Fin 4) :
    broadcastInDim S32x4x1 ![0, 1] bcast_S32x4_S32x4x1_0_1 f (ix3 b i (0 : Fin 1)) = f (ix2 b i) :=
  broadcastInDim_apply _ bcast_S32x4_S32x4x1_0_1 f (ix3 b i (0 : Fin 1)) (ix2 b i) (fun a => match a with
    | ⟨0, _⟩ => by show b.val = if (32 : Nat) = 1 then 0 else b.val; rw [if_neg (by decide)]
    | ⟨1, _⟩ => by show i.val = if (4 : Nat) = 1 then 0 else i.val; rw [if_neg (by decide)])

/-- Four tables, by number. -/
def pickOf {β : Type} (a b c d : β) (g : Fin 4) : β := match g with
  | ⟨0, _⟩ => a
  | ⟨1, _⟩ => b
  | ⟨2, _⟩ => c
  | ⟨3, _⟩ => d

theorem slots_of {α : Type} (f : Fin 4 → S32x4.Idx → α) (b : Fin 32) (s : Fin 16) :
    shapeCast S32x16 (concatenate S32x4x4 2
      [⟨S32x4x1, broadcastInDim S32x4x1 ![0, 1] bcast_S32x4_S32x4x1_0_1 (f 0)⟩,
       ⟨S32x4x1, broadcastInDim S32x4x1 ![0, 1] bcast_S32x4_S32x4x1_0_1 (f 1)⟩,
       ⟨S32x4x1, broadcastInDim S32x4x1 ![0, 1] bcast_S32x4_S32x4x1_0_1 (f 2)⟩,
       ⟨S32x4x1, broadcastInDim S32x4x1 ![0, 1] bcast_S32x4_S32x4x1_0_1 (f 3)⟩]
      concatenates_S32x4x1_S32x4x1_S32x4x1_S32x4x1_S32x4x4_d2) shapeCasts_S32x4x4_S32x16 (ix2 b s)
      = f (⟨s.val % 4, Nat.mod_lt _ (by norm_num)⟩ : Fin 4) (ix2 b (⟨s.val / 4, by have := s.isLt; omega⟩ : Fin 4)) :=
  slots_apply f (fun g => broadcastInDim S32x4x1 ![0, 1] bcast_S32x4_S32x4x1_0_1 (f g)) (fun g b i => column_apply (f g) b i)
    shapeCasts_S32x4x4_S32x16 concatenates_S32x4x1_S32x4x1_S32x4x1_S32x4x1_S32x4x4_d2 b s

/-- The reference's scores. -/
theorem ref_scores (b : Fin 32) (s : Fin 16) : val_main_v189 (F := Ideal) x0 x1 x2 (ix2 b s)
    = (rowOf x0 x1 x2 b).list ((rowOf x0 x1 x2 b).cnt (s.val % 4)) (s.val % 4) ((rowOf x0 x1 x2 b).top (s.val % 4) (s.val / 4)) := by
  refine (slots_of (pickOf (val_main_values (F := Ideal) x0 x1 x2) (val_main_values_35 (F := Ideal) x0 x1 x2)
    (val_main_values_60 (F := Ideal) x0 x1 x2) (val_main_values_85 (F := Ideal) x0 x1 x2)) b s).trans ?_
  suffices h : ∀ (g i : ℕ) (hg : g < 4) (hi : i < 4), pickOf (val_main_values (F := Ideal) x0 x1 x2) (val_main_values_35 (F := Ideal) x0 x1 x2)
    (val_main_values_60 (F := Ideal) x0 x1 x2) (val_main_values_85 (F := Ideal) x0 x1 x2) (⟨g, hg⟩ : Fin 4) (ix2 b (⟨i, hi⟩ : Fin 4))
      = (rowOf x0 x1 x2 b).list ((rowOf x0 x1 x2 b).cnt g) g ((rowOf x0 x1 x2 b).top g i) from h _ _ _ _
  intro g i hg hi
  match g, hg with
  | 0, _ => exact (select_0 x0 x1 x2 b ⟨i, hi⟩).1
  | 1, _ => exact (select_1 x0 x1 x2 b ⟨i, hi⟩).1
  | 2, _ => exact (select_2 x0 x1 x2 b ⟨i, hi⟩).1
  | 3, _ => exact (select_3 x0 x1 x2 b ⟨i, hi⟩).1

/-- The reference's tokens. -/
theorem ref_tokens (b : Fin 32) (s : Fin 16) : val_main_v195 (F := Ideal) x0 x1 x2 (ix2 b s)
    = BitVec.ofNat 32 (((rowOf x0 x1 x2 b).top (s.val % 4) (s.val / 4)).val % 100000) := by
  refine (slots_of (pickOf (val_main_v20 (F := Ideal) x0 x1 x2) (val_main_v67 (F := Ideal) x0 x1 x2)
    (val_main_v114 (F := Ideal) x0 x1 x2) (val_main_v161 (F := Ideal) x0 x1 x2)) b s).trans ?_
  suffices h : ∀ (g i : ℕ) (hg : g < 4) (hi : i < 4), pickOf (val_main_v20 (F := Ideal) x0 x1 x2) (val_main_v67 (F := Ideal) x0 x1 x2)
    (val_main_v114 (F := Ideal) x0 x1 x2) (val_main_v161 (F := Ideal) x0 x1 x2) (⟨g, hg⟩ : Fin 4) (ix2 b (⟨i, hi⟩ : Fin 4))
      = BitVec.ofNat 32 (((rowOf x0 x1 x2 b).top g i).val % 100000) from h _ _ _ _
  intro g i hg hi
  match g, hg with
  | 0, _ => exact (congrFun (tokens_0 x0 x1 x2) _).trans (tokens_word _ _ 0 b ⟨i, hi⟩ (select_0 x0 x1 x2 b ⟨i, hi⟩).2)
  | 1, _ => exact (congrFun (tokens_1 x0 x1 x2) _).trans (tokens_word _ _ 1 b ⟨i, hi⟩ (select_1 x0 x1 x2 b ⟨i, hi⟩).2)
  | 2, _ => exact (congrFun (tokens_2 x0 x1 x2) _).trans (tokens_word _ _ 2 b ⟨i, hi⟩ (select_2 x0 x1 x2 b ⟨i, hi⟩).2)
  | 3, _ => exact (congrFun (tokens_3 x0 x1 x2) _).trans (tokens_word _ _ 3 b ⟨i, hi⟩ (select_3 x0 x1 x2 b ⟨i, hi⟩).2)

/-- The reference's beams. -/
theorem ref_beams (b : Fin 32) (s : Fin 16) : val_main_v201 (F := Ideal) x0 x1 x2 (ix2 b s)
    = BitVec.ofNat 32 (((rowOf x0 x1 x2 b).top (s.val % 4) (s.val / 4)).val / 100000 * 4 + s.val % 4) := by
  refine (slots_of (pickOf (val_main_v24 (F := Ideal) x0 x1 x2) (val_main_v71 (F := Ideal) x0 x1 x2)
    (val_main_v118 (F := Ideal) x0 x1 x2) (val_main_v165 (F := Ideal) x0 x1 x2)) b s).trans ?_
  suffices h : ∀ (g i : ℕ) (hg : g < 4) (hi : i < 4), pickOf (val_main_v24 (F := Ideal) x0 x1 x2) (val_main_v71 (F := Ideal) x0 x1 x2)
    (val_main_v118 (F := Ideal) x0 x1 x2) (val_main_v165 (F := Ideal) x0 x1 x2) (⟨g, hg⟩ : Fin 4) (ix2 b (⟨i, hi⟩ : Fin 4))
      = BitVec.ofNat 32 (((rowOf x0 x1 x2 b).top g i).val / 100000 * 4 + g) from h _ _ _ _
  intro g i hg hi
  match g, hg with
  | 0, _ => exact (congrFun (beams_0 x0 x1 x2) _).trans (beams_word _ _ 0 b ⟨i, hi⟩ (select_0 x0 x1 x2 b ⟨i, hi⟩).2)
  | 1, _ => exact (congrFun (beams_1 x0 x1 x2) _).trans (beams_word _ _ 1 b ⟨i, hi⟩ (select_1 x0 x1 x2 b ⟨i, hi⟩).2)
  | 2, _ => exact (congrFun (beams_2 x0 x1 x2) _).trans (beams_word _ _ 2 b ⟨i, hi⟩ (select_2 x0 x1 x2 b ⟨i, hi⟩).2)
  | 3, _ => exact (congrFun (beams_3 x0 x1 x2) _).trans (beams_word _ _ 3 b ⟨i, hi⟩ (select_3 x0 x1 x2 b ⟨i, hi⟩).2)

end Groups

end Cert.Proof.Beam
-- ==== Proof.Entry.lean ====
/- What the kernel's region finds in its two input arrays, and the block of each a grid point fetches. -/
module

public import proofs.«01_k».proof.Proof.RefSpec
public import proofs.«01_k».proof.Proof.Gen.KernelIdeal.Frame
public import proofs.«01_k».proof.Proof.Gen.KernelIdeal.Run
public import Idealize.ShloMosaic.Lib.Pipeline.Value

@[expose] public section

set_option maxRecDepth 65536

noncomputable section

namespace Cert.Proof.Beam

open Idealize.ShloMosaic Idealize.SL.Sem Cert.KernelIdeal Cert.KernelIdeal.Gen Idealize.ShloMosaic.TcCoe Idealize.ShloMosaic.StableHlo

variable (m : (ℓ : Loc nD τ sig) → Buf (Elt Ideal) ℓ) (c : Dev nD)

/-- The scores operand: the log-probabilities, each beam's words in eight rows. -/
theorem entry_scores : V m c main_v0 = shapeCast S32x8x8x12500 (m ((c.tc : Thread nD τ).loc main_arg1)) shapeCasts_S32x8x100000_S32x8x8x12500 := by
  unfold V V0
  simp only [Gen.hostOps0, List.flatten_cons, List.flatten_nil, List.append_nil, List.cons_append, List.nil_append]
  after_results <;> rfl

/-- The biases operand: the step's column of the running scores. -/
theorem entry_biases : V m c main_v6 = shapeCast S32x1x8 (Host.dynamicSlice S32x8x1 (m ((c.tc : Thread nD τ).loc main_arg2))
    (fun k => ((![constantI S_ 32 0#32, constantI S_ 32 0#32,
      select (cmpi .slt (subi (m ((c.tc : Thread nD τ).loc main_arg0)) (constantI S_ 32 1#32)) (constantI S_ 32 0#32))
        (addi (subi (m ((c.tc : Thread nD τ).loc main_arg0)) (constantI S_ 32 1#32)) (constantI S_ 32 4#32))
        (subi (m ((c.tc : Thread nD τ).loc main_arg0)) (constantI S_ 32 1#32))] : Fin 3 → IVec S_ 32) k (Shape.Idx.first h_S_)).toInt)
    sliceFits_S32x8x4_S32x8x1) shapeCasts_S32x8x1_S32x1x8 := by
  unfold V V0
  simp only [Gen.hostOps0, List.flatten_cons, List.flatten_nil, List.append_nil, List.cons_append, List.nil_append]
  after_results
  refine congrArg (fun f => shapeCast S32x1x8 (Host.dynamicSlice S32x8x1 (m ((c.tc : Thread nD τ).loc main_arg2)) f sliceFits_S32x8x4_S32x8x1)
    shapeCasts_S32x8x1_S32x1x8) (funext fun k => congrArg BitVec.toInt (congrFun (?_ : (_ : IVec S_ 32) = _) (Shape.Idx.first h_S_)))
  match k with
  | ⟨0, _⟩ =>
    refine eq_of_heq ((cast_heq _ _).trans (heq_of_eq ?_))
    change (HloOp.result (Val := Elt Ideal) _ _ (Proc.devRef .tc main_c_2) : IVec S_ 32) = constantI S_ 32 0#32
    after_results_simp <;> rfl
  | ⟨1, _⟩ =>
    refine eq_of_heq ((cast_heq _ _).trans (heq_of_eq ?_))
    change (HloOp.result (Val := Elt Ideal) _ _ (Proc.devRef .tc main_c_3) : IVec S_ 32) = constantI S_ 32 0#32
    after_results_simp <;> rfl
  | ⟨2, _⟩ =>
    refine eq_of_heq ((cast_heq _ _).trans (heq_of_eq ?_))
    change (HloOp.result (Val := Elt Ideal) _ _ (Proc.devRef .tc main_v4) : IVec S_ 32) = select
      (cmpi .slt (subi (m ((c.tc : Thread nD τ).loc main_arg0)) (constantI S_ 32 1#32)) (constantI S_ 32 0#32))
      (addi (subi (m ((c.tc : Thread nD τ).loc main_arg0)) (constantI S_ 32 1#32)) (constantI S_ 32 4#32))
      (subi (m ((c.tc : Thread nD τ).loc main_arg0)) (constantI S_ 32 1#32))
    after_results_simp <;> rfl

/-! ## The blocks -/

theorem index_scores : ∀ t : Fin grid0.N, win0_0.index t 0 = t.val ∧ win0_0.index t 1 = 0 ∧ win0_0.index t 2 = 0 ∧ win0_0.index t 3 = 0 := by
  decide +kernel
theorem index_biases : ∀ t : Fin grid0.N, win0_1.index t 0 = t.val ∧ win0_1.index t 1 = 0 ∧ win0_1.index t 2 = 0 := by
  decide +kernel

/-- The launch's arguments. -/
abbrev arg0 : X0 := m ((c.tc : Thread nD τ).loc main_arg0)
abbrev arg1 : X1 := m ((c.tc : Thread nD τ).loc main_arg1)
abbrev arg2 : X2 := m ((c.tc : Thread nD τ).loc main_arg2)

/-- A word of the scores block of a point. -/
theorem block_lp (t : Fin cfg0.N) (y : S2x8x8x12500.Idx) (b : Fin 32) (hb : b.val = t.val * 2 + (y 0).val) :
    (iblk m c 0 t : S2x8x8x12500.Idx → EReal) y
      = (rowOf (arg0 m c) (arg1 m c) (arg2 m c) b).lp (y 1).val ((y 2).val * 12500 + (y 3).val) := by
  have h1 : (y 1).val < 8 := (y 1).isLt
  have h2 : (y 2).val < 8 := (y 2).isLt
  have h3 : (y 3).val < 12500 := (y 3).isLt
  obtain ⟨i0, i1, i2, i3⟩ := index_scores t
  have e : (iblk m c 0 t : S2x8x8x12500.Idx → EReal) y
      = (V m c main_v0 : S32x8x8x12500.Idx → EReal) ((win0_0.rect t).emb y) := rfl
  rw [e, entry_scores]
  have f0 : ((win0_0.rect t).emb y 0 : Nat) = b.val := by
    rw [Pipeline.Window.rect_emb_val win0_0 t y 0, i0, hb]; rfl
  have f1 : ((win0_0.rect t).emb y 1 : Nat) = (y 1).val := by
    rw [Pipeline.Window.rect_emb_val win0_0 t y 1, i1, Nat.zero_mul, Nat.zero_add]
  have f2 : ((win0_0.rect t).emb y 2 : Nat) = (y 2).val := by
    rw [Pipeline.Window.rect_emb_val win0_0 t y 2, i2, Nat.zero_mul, Nat.zero_add]
  have f3 : ((win0_0.rect t).emb y 3 : Nat) = (y 3).val := by
    rw [Pipeline.Window.rect_emb_val win0_0 t y 3, i3, Nat.zero_mul, Nat.zero_add]
  obtain ⟨z, hz⟩ : ∃ z : S32x8x8x12500.Idx, z = (win0_0.rect t).emb y := ⟨_, rfl⟩
  rw [← hz] at f0 f1 f2 f3 ⊢
  refine shapeCast_apply _ _ z (ix3 b (⟨(y 1).val % 8, Nat.mod_lt _ (by norm_num)⟩ : Fin 8)
    (⟨((y 2).val * 12500 + (y 3).val) % 100000, Nat.mod_lt _ (by norm_num)⟩ : Fin 100000)) ?_
  rw [Shape.rowMajor_val_three, Shape.rowMajor_val_four]
  show (b.val * 8 + (y 1).val % 8) * 100000 + ((y 2).val * 12500 + (y 3).val) % 100000
    = (((z 0).val * 8 + (z 1).val) * 8 + (z 2).val) * 12500 + (z 3).val
  have g0 : (z 0).val = b.val := f0
  have g1 : (z 1).val = (y 1).val := f1
  have g2 : (z 2).val = (y 2).val := f2
  have g3 : (z 3).val = (y 3).val := f3
  rw [g0, g1, g2, g3, Nat.mod_eq_of_lt h1, Nat.mod_eq_of_lt (by omega)]
  omega

/-- A bias of the biases block of a point. -/
theorem block_sc (t : Fin cfg0.N) (y : S2x1x8.Idx) (b : Fin 32) (hb : b.val = t.val * 2 + (y 0).val) :
    (iblk m c 1 t : S2x1x8.Idx → EReal) y = (rowOf (arg0 m c) (arg1 m c) (arg2 m c) b).sc (y 2).val := by
  have h1 : (y 1).val < 1 := (y 1).isLt
  have h2 : (y 2).val < 8 := (y 2).isLt
  obtain ⟨i0, i1, i2⟩ := index_biases t
  have e : (iblk m c 1 t : S2x1x8.Idx → EReal) y
      = (V m c main_v6 : S32x1x8.Idx → EReal) ((win0_1.rect t).emb y) := rfl
  rw [e, entry_biases]
  have f0 : ((win0_1.rect t).emb y 0 : Nat) = b.val := by
    rw [Pipeline.Window.rect_emb_val win0_1 t y 0, i0, hb]; rfl
  have f1 : ((win0_1.rect t).emb y 1 : Nat) = (y 1).val := by
    rw [Pipeline.Window.rect_emb_val win0_1 t y 1, i1, Nat.zero_mul, Nat.zero_add]
  have f2 : ((win0_1.rect t).emb y 2 : Nat) = (y 2).val := by
    rw [Pipeline.Window.rect_emb_val win0_1 t y 2, i2, Nat.zero_mul, Nat.zero_add]
  obtain ⟨z, hz⟩ : ∃ z : S32x1x8.Idx, z = (win0_1.rect t).emb y := ⟨_, rfl⟩
  rw [← hz] at f0 f1 f2 ⊢
  have g0 : (z 0).val = b.val := f0
  have g1 : (z 1).val = (y 1).val := f1
  have g2 : (z 2).val = (y 2).val := f2
  refine (shapeCast_apply _ _ z (ix3 b (⟨(y 2).val % 8, Nat.mod_lt _ (by norm_num)⟩ : Fin 8) (0 : Fin 1)) ?_).trans ?_
  · rw [Shape.rowMajor_val_three, Shape.rowMajor_val_three]
    show (b.val * 8 + (y 2).val % 8) * 1 + 0 = ((z 0).val * 1 + (z 1).val) * 8 + (z 2).val
    rw [g0, g1, g2]
    omega
  · rw [Host.dynamicSlice_apply]
    refine congrArg (arg2 m c) (funext fun a => Fin.ext ?_)
    match a with
    | ⟨0, _⟩ =>
      show (min (max (0#32 : BitVec 32).toInt 0) ((32 - 32 : ℕ) : ℤ)).toNat + b.val = b.val
      simp
    | ⟨1, _⟩ =>
      show (min (max (0#32 : BitVec 32).toInt 0) ((8 - 8 : ℕ) : ℤ)).toNat + (y 2).val % 8 = (y 2).val % 8
      simp
    | ⟨2, _⟩ => rfl

end Cert.Proof.Beam

end
-- ==== Proof.Arrays.lean ====
/- The three result arrays after the kernel's run: at every batch row and slot, the value the reference's mathematics gives. -/
module

public import proofs.«01_k».proof.Proof.Trips
public import proofs.«01_k».proof.Proof.Entry

@[expose] public section

set_option maxRecDepth 65536

noncomputable section

namespace Cert.Proof.Beam

open Idealize.ShloMosaic Idealize.SL.Sem Cert.KernelIdeal Cert.KernelIdeal.Gen Idealize.ShloMosaic.TcCoe
open Idealize.ShloMosaic.Pipeline (Dat)

variable (m : (ℓ : Loc nD τ sig) → Buf (Elt Ideal) ℓ) (c : Dev nD)

/-- The batch row `b` of the launch's arguments. -/
abbrev launchRow (b : Fin 32) : Row := rowOf (arg0 m c) (arg1 m c) (arg2 m c) b

/-- The scores array. -/
def scoresArr : S32x1x16.Idx → EReal := fun j =>
  (launchRow m c (j 0)).list ((launchRow m c (j 0)).cnt ((j 2).val % 4)) ((j 2).val % 4) ((launchRow m c (j 0)).top ((j 2).val % 4) ((j 2).val / 4))
/-- The tokens array. -/
def tokensArr : S32x1x16.Idx → BitVec 32 := fun j =>
  BitVec.ofNat 32 (((launchRow m c (j 0)).top ((j 2).val % 4) ((j 2).val / 4)).val % 100000)
/-- The beams array. -/
def beamsArr : S32x1x16.Idx → BitVec 32 := fun j =>
  BitVec.ofNat 32 (((launchRow m c (j 0)).top ((j 2).val % 4) ((j 2).val / 4)).val / 100000 * 4 + (j 2).val % 4)

variable (ha : ∀ b, (launchRow m c b).Above)

/-- The pick an index of a point's result blocks holds. -/
theorem point_pick (t : Fin cfg0.N) (y : S2x1x16.Idx) (b : Fin 32) (hb : b.val = t.val * 2 + (y 0).val) (hab : (launchRow m c b).Above) :
    km (stateAt (ms0_0 t) (hs0_0 t) (ms0_1 t) (hs0_1 t) (iblk m c 0 t) (iblk m c 1 t) y).1
        (stateAt (ms0_0 t) (hs0_0 t) (ms0_1 t) (hs0_1 t) (iblk m c 0 t) (iblk m c 1 t) y).2
      = (launchRow m c b).list ((launchRow m c b).cnt ((y 2).val % 4)) ((y 2).val % 4) ((launchRow m c b).top ((y 2).val % 4) ((y 2).val / 4))
    ∧ ktok (stateAt (ms0_0 t) (hs0_0 t) (ms0_1 t) (hs0_1 t) (iblk m c 0 t) (iblk m c 1 t) y).1
        (stateAt (ms0_0 t) (hs0_0 t) (ms0_1 t) (hs0_1 t) (iblk m c 0 t) (iblk m c 1 t) y).2
      = BitVec.ofNat 32 (((launchRow m c b).top ((y 2).val % 4) ((y 2).val / 4)).val % 100000)
    ∧ kbeam (BitVec.ofNat 32 ((y 2).val % 4)) (stateAt (ms0_0 t) (hs0_0 t) (ms0_1 t) (hs0_1 t) (iblk m c 0 t) (iblk m c 1 t) y).1
        (stateAt (ms0_0 t) (hs0_0 t) (ms0_1 t) (hs0_1 t) (iblk m c 0 t) (iblk m c 1 t) y).2
      = BitVec.ofNat 32 (((launchRow m c b).top ((y 2).val % 4) ((y 2).val / 4)).val / 100000 * 4 + (y 2).val % 4) := by
  have h2 : (y 2).val < 16 := (y 2).isLt
  unfold stateAt
  refine row_pick _ _ (trip_matches (ms0_0 t) (hs0_0 t) (ms0_1 t) (hs0_1 t) _ _ _ _ ?_ ?_) hab _ (Nat.mod_lt _ (by norm_num)) _ (by omega)
  · intro z hz
    exact block_lp m c t z b (by rw [hb, hz]; rfl)
  · intro z hz
    exact block_sc m c t z b (by rw [hb, hz]; rfl)

/-! ## The scores -/

theorem index_out2 : ∀ t : Fin grid0.N, win0_2.index t 0 = t.val ∧ win0_2.index t 1 = 0 ∧ win0_2.index t 2 = 0 := by
  decide +kernel

include ha in
theorem flushed_scores (t : Fin cfg0.N) : (dats m 0 c).flushed 2 t = (win0_2.blk t).view.read (Elt Ideal) (scoresArr m c) := by
  show (cfg0.win 2).cut (grid0.coords t) ((dats m 0 c).after 2 t) = _
  rw [after0_2]
  funext y
  obtain ⟨i0, i1, i2⟩ := index_out2 t
  have f0 : ((win0_2.rect t).emb y 0 : Nat) = t.val * 2 + (y 0).val := by
    rw [Pipeline.Window.rect_emb_val win0_2 t y 0, i0]; rfl
  have f2 : ((win0_2.rect t).emb y 2 : Nat) = (y 2).val := by
    rw [Pipeline.Window.rect_emb_val win0_2 t y 2, i2, Nat.zero_mul, Nat.zero_add]
  have e : (win0_2.blk t).view.read (Elt Ideal) (scoresArr m c) y = scoresArr m c ((win0_2.rect t).emb y) := rfl
  rw [e]
  obtain ⟨z, hz⟩ : ∃ z : S32x1x16.Idx, z = (win0_2.rect t).emb y := ⟨_, rfl⟩
  rw [← hz] at f0 f2 ⊢
  have g2 : (z 2).val = (y 2).val := f2
  refine (block_scores c (grid0.coords t) (ms0_0 t) (hs0_0 t) (ms0_1 t) (hs0_1 t) (ms0_2 t) (hs0_2 t) (ms0_3 t) (hs0_3 t) (ms0_4 t) (hs0_4 t)
    (iblk m c 0 t) (iblk m c 1 t) y).trans ?_
  unfold scoresArr
  rw [g2]
  exact (point_pick m c t y (z 0) f0 (ha _)).1

theorem cover_scores (j : S32x1x16.Idx) :
    ∃ t : Fin cfg0.N, (cfg0.win 2).flush t = true ∧ j ∈ ((cfg0.win 2).blk t).view.set := by
  have h0 : (j 0).val < 32 := (j 0).isLt
  have h1 : (j 1).val < 1 := (j 1).isLt
  have h2 : (j 2).val < 16 := (j 2).isLt
  have hN : cfg0.N = 16 := N_0
  obtain ⟨t, ht⟩ : ∃ t : Fin cfg0.N, t.val = (j 0).val / 2 := ⟨⟨(j 0).val / 2, by omega⟩, rfl⟩
  refine ⟨t, flush0_2 t, ?_⟩
  show j ∈ ((View.whole main_v7_0).slice (win0_2.rect t)).set
  rw [View.set_slice_whole, Rect.mem_set_unit]
  obtain ⟨i0, i1, i2⟩ := index_out2 t
  intro a
  match a with
  | ⟨0, _⟩ =>
    show win0_2.index t 0 * 2 ≤ (j 0).val ∧ (j 0).val < win0_2.index t 0 * 2 + 2
    rw [i0, ht]; omega
  | ⟨1, _⟩ =>
    show win0_2.index t 1 * 1 ≤ (j 1).val ∧ (j 1).val < win0_2.index t 1 * 1 + 1
    rw [i1]; omega
  | ⟨2, _⟩ =>
    show win0_2.index t 2 * 16 ≤ (j 2).val ∧ (j 2).val < win0_2.index t 2 * 16 + 16
    rw [i2]; omega

include ha in
/-- The scores the kernel's run leaves. -/
theorem final_scores : Value.reg_main_v7_0 m c = scoresArr m c :=
  (dats m 0 c).arrAt_eq_of_cover 2 (scoresArr m c) (fun t _ => flushed_scores m c ha t) cover_scores

/-! ## The tokens -/

theorem index_out3 : ∀ t : Fin grid0.N, win0_3.index t 0 = t.val ∧ win0_3.index t 1 = 0 ∧ win0_3.index t 2 = 0 := by
  decide +kernel

include ha in
theorem flushed_tokens (t : Fin cfg0.N) : (dats m 0 c).flushed 3 t = (win0_3.blk t).view.read (Elt Ideal) (tokensArr m c) := by
  show (cfg0.win 3).cut (grid0.coords t) ((dats m 0 c).after 3 t) = _
  rw [after0_3]
  funext y
  obtain ⟨i0, i1, i2⟩ := index_out3 t
  have f0 : ((win0_3.rect t).emb y 0 : Nat) = t.val * 2 + (y 0).val := by
    rw [Pipeline.Window.rect_emb_val win0_3 t y 0, i0]; rfl
  have f2 : ((win0_3.rect t).emb y 2 : Nat) = (y 2).val := by
    rw [Pipeline.Window.rect_emb_val win0_3 t y 2, i2, Nat.zero_mul, Nat.zero_add]
  have e : (win0_3.blk t).view.read (Elt Ideal) (tokensArr m c) y = tokensArr m c ((win0_3.rect t).emb y) := rfl
  rw [e]
  obtain ⟨z, hz⟩ : ∃ z : S32x1x16.Idx, z = (win0_3.rect t).emb y := ⟨_, rfl⟩
  rw [← hz] at f0 f2 ⊢
  have g2 : (z 2).val = (y 2).val := f2
  refine (block_tokens c (grid0.coords t) (ms0_0 t) (hs0_0 t) (ms0_1 t) (hs0_1 t) (ms0_2 t) (hs0_2 t) (ms0_3 t) (hs0_3 t) (ms0_4 t) (hs0_4 t)
    (iblk m c 0 t) (iblk m c 1 t) y).trans ?_
  unfold tokensArr
  rw [g2]
  exact (point_pick m c t y (z 0) f0 (ha _)).2.1

theorem cover_tokens (j : S32x1x16.Idx) :
    ∃ t : Fin cfg0.N, (cfg0.win 3).flush t = true ∧ j ∈ ((cfg0.win 3).blk t).view.set := by
  have h0 : (j 0).val < 32 := (j 0).isLt
  have h1 : (j 1).val < 1 := (j 1).isLt
  have h2 : (j 2).val < 16 := (j 2).isLt
  have hN : cfg0.N = 16 := N_0
  obtain ⟨t, ht⟩ : ∃ t : Fin cfg0.N, t.val = (j 0).val / 2 := ⟨⟨(j 0).val / 2, by omega⟩, rfl⟩
  refine ⟨t, flush0_3 t, ?_⟩
  show j ∈ ((View.whole main_v7_1).slice (win0_3.rect t)).set
  rw [View.set_slice_whole, Rect.mem_set_unit]
  obtain ⟨i0, i1, i2⟩ := index_out3 t
  intro a
  match a with
  | ⟨0, _⟩ =>
    show win0_3.index t 0 * 2 ≤ (j 0).val ∧ (j 0).val < win0_3.index t 0 * 2 + 2
    rw [i0, ht]; omega
  | ⟨1, _⟩ =>
    show win0_3.index t 1 * 1 ≤ (j 1).val ∧ (j 1).val < win0_3.index t 1 * 1 + 1
    rw [i1]; omega
  | ⟨2, _⟩ =>
    show win0_3.index t 2 * 16 ≤ (j 2).val ∧ (j 2).val < win0_3.index t 2 * 16 + 16
    rw [i2]; omega

include ha in
/-- The tokens the kernel's run leaves. -/
theorem final_tokens : Value.reg_main_v7_1 m c = tokensArr m c :=
  (dats m 0 c).arrAt_eq_of_cover 3 (tokensArr m c) (fun t _ => flushed_tokens m c ha t) cover_tokens

/-! ## The beams -/

theorem index_out4 : ∀ t : Fin grid0.N, win0_4.index t 0 = t.val ∧ win0_4.index t 1 = 0 ∧ win0_4.index t 2 = 0 := by
  decide +kernel

include ha in
theorem flushed_beams (t : Fin cfg0.N) : (dats m 0 c).flushed 4 t = (win0_4.blk t).view.read (Elt Ideal) (beamsArr m c) := by
  show (cfg0.win 4).cut (grid0.coords t) ((dats m 0 c).after 4 t) = _
  rw [after0_4]
  funext y
  obtain ⟨i0, i1, i2⟩ := index_out4 t
  have f0 : ((win0_4.rect t).emb y 0 : Nat) = t.val * 2 + (y 0).val := by
    rw [Pipeline.Window.rect_emb_val win0_4 t y 0, i0]; rfl
  have f2 : ((win0_4.rect t).emb y 2 : Nat) = (y 2).val := by
    rw [Pipeline.Window.rect_emb_val win0_4 t y 2, i2, Nat.zero_mul, Nat.zero_add]
  have e : (win0_4.blk t).view.read (Elt Ideal) (beamsArr m c) y = beamsArr m c ((win0_4.rect t).emb y) := rfl
  rw [e]
  obtain ⟨z, hz⟩ : ∃ z : S32x1x16.Idx, z = (win0_4.rect t).emb y := ⟨_, rfl⟩
  rw [← hz] at f0 f2 ⊢
  have g2 : (z 2).val = (y 2).val := f2
  refine (block_beams c (grid0.coords t) (ms0_0 t) (hs0_0 t) (ms0_1 t) (hs0_1 t) (ms0_2 t) (hs0_2 t) (ms0_3 t) (hs0_3 t) (ms0_4 t) (hs0_4 t)
    (iblk m c 0 t) (iblk m c 1 t) y).trans ?_
  unfold beamsArr
  rw [g2]
  exact (point_pick m c t y (z 0) f0 (ha _)).2.2

theorem cover_beams (j : S32x1x16.Idx) :
    ∃ t : Fin cfg0.N, (cfg0.win 4).flush t = true ∧ j ∈ ((cfg0.win 4).blk t).view.set := by
  have h0 : (j 0).val < 32 := (j 0).isLt
  have h1 : (j 1).val < 1 := (j 1).isLt
  have h2 : (j 2).val < 16 := (j 2).isLt
  have hN : cfg0.N = 16 := N_0
  obtain ⟨t, ht⟩ : ∃ t : Fin cfg0.N, t.val = (j 0).val / 2 := ⟨⟨(j 0).val / 2, by omega⟩, rfl⟩
  refine ⟨t, flush0_4 t, ?_⟩
  show j ∈ ((View.whole main_v7_2).slice (win0_4.rect t)).set
  rw [View.set_slice_whole, Rect.mem_set_unit]
  obtain ⟨i0, i1, i2⟩ := index_out4 t
  intro a
  match a with
  | ⟨0, _⟩ =>
    show win0_4.index t 0 * 2 ≤ (j 0).val ∧ (j 0).val < win0_4.index t 0 * 2 + 2
    rw [i0, ht]; omega
  | ⟨1, _⟩ =>
    show win0_4.index t 1 * 1 ≤ (j 1).val ∧ (j 1).val < win0_4.index t 1 * 1 + 1
    rw [i1]; omega
  | ⟨2, _⟩ =>
    show win0_4.index t 2 * 16 ≤ (j 2).val ∧ (j 2).val < win0_4.index t 2 * 16 + 16
    rw [i2]; omega

include ha in
/-- The beams the kernel's run leaves. -/
theorem final_beams : Value.reg_main_v7_2 m c = beamsArr m c :=
  (dats m 0 c).arrAt_eq_of_cover 4 (beamsArr m c) (fun t _ => flushed_beams m c ha t) cover_beams

end Cert.Proof.Beam

end
-- ==== Proof.Above.lean ====
/- What the precondition says of each batch row: four entries of every group lie above minus infinity. -/
module

public import proofs.«01_k».proof.Proof.RefSpec
public import proofs.«01_k».proof.Proof.Gen.Pre_four_candidates
public import Idealize.ShloMosaic.Lib.ReduceAll
public import Idealize.ShloMosaic.Lib.StableHlo.Predicate

@[expose] public section

set_option maxRecDepth 65536

noncomputable section

namespace Cert.Proof.Beam

open Idealize.ShloMosaic Idealize.SL.Sem Cert.Pre_four_candidates Cert.Pre_four_candidates.Gen

/-! ## Counting by a sum of words -/

theorem toNat_fold_addi_le {ι : Type} (S : Finset ι) (f : ι → BitVec 32) :
    (S.fold IntOp.addi 0#32 f).toNat ≤ ∑ i ∈ S, (f i).toNat := by
  induction S using Finset.cons_induction with
  | empty => exact le_rfl
  | cons a S ha ih =>
    rw [Finset.fold_cons, Finset.sum_cons]
    refine le_trans (b := (f a).toNat + (S.fold IntOp.addi 0#32 f).toNat) ?_ (Nat.add_le_add_left ih _)
    show (f a + S.fold IntOp.addi 0#32 f).toNat ≤ _
    rw [BitVec.toNat_add]
    exact Nat.mod_le _ _

/-- The indices of a mask that a reduction sums into `j` and whose bit is set. -/
def setBits {s t : Shape} {axes : List (Fin s.rank)} (mask : IVec s 1) (h : s.ReducesTo axes t) (j : t.Idx) : Finset s.Idx := by
  classical exact Finset.univ.filter fun i => h.drop i = j ∧ mask i = 1#1

theorem mem_setBits {s t : Shape} {axes : List (Fin s.rank)} (mask : IVec s 1) (h : s.ReducesTo axes t) (j : t.Idx) (i : s.Idx) :
    i ∈ setBits mask h j ↔ h.drop i = j ∧ mask i = 1#1 := by simp [setBits]

/-- The sum of the widened bits is at most the number of bits set. -/
theorem count_le {s t u : Shape} {axes : List (Fin s.rank)} (mask : IVec s 1) (hw : 1 < 32) (h : s.ReducesTo axes t)
    (hu : 0 < u.numel) (j : t.Idx) :
    (Host.reduce IntOp.addi (extui 32 mask hw) (constantI u 32 0#32) h hu j).toNat ≤ (setBits mask h j).card := by
  classical
  rw [Host.reduce_eq_fold]
  refine (toNat_fold_addi_le _ _).trans (le_of_eq ?_)
  have hval : ∀ i, (extui 32 mask hw i).toNat = if mask i = 1#1 then 1 else 0 := fun i => Idealize.ShloMosaic.StableHlo.Predicate.toNat_setWidth_bit (mask i)
  simp only [hval]
  rw [← Finset.card_filter, Finset.filter_filter]
  exact congrArg Finset.card (Finset.ext fun i => by rw [mem_setBits]; simp)

theorem four_le (w : BitVec 32) (h : IntOp.cmpi .sge w 4#32 = 1#1) : 4 ≤ w.toNat := by
  have h' : (4#32 : BitVec 32).sle w = true := (WordCmp.ofBool_eq_one_iff _).1 h
  simp only [BitVec.sle, BitVec.toInt_eq_msb_cond, decide_eq_true_eq] at h'
  have := w.isLt
  have e4 : (4#32 : BitVec 32).toNat = 4 := rfl
  have m4 : (4#32 : BitVec 32).msb = false := rfl
  rw [m4, e4] at h'
  simp only [Bool.false_eq_true, ↓reduceIte] at h'
  by_cases hm : w.msb = true
  · rw [if_pos hm] at h'; omega
  · rw [if_neg hm] at h'; omega

/-! ## The precondition -/

/-- A comparison with the least word that holds says its operand lies above the bottom. -/
theorem above_of_cmp (v : EReal) (h : FloatOps.cmpf (F := Ideal) (φ := .f32) .ogt v (FloatOps.ofBits (F := Ideal) .f32 0xFF800000#32) = 1#1) : ⊥ < v := by
  rw [ofBits_neg_infinity, Ideal.cmpf_def] at h
  exact of_decide_eq_true ((WordCmp.ofBool_eq_one_iff _).1 h)

instance : Subsingleton S_.Idx := ⟨fun _ _ => funext fun a => a.elim0⟩

variable (x0 : X0) (x1 : X1) (x2 : X2)

/-- The step's column of the scores. -/
def held : FVec Ideal S32x8x1 .f32 := Host.dynamicSlice S32x8x1 x2
  (fun k => ((![constantI S_ 32 0#32, constantI S_ 32 0#32,
    select (cmpi .slt (subi x0 (constantI S_ 32 1#32)) (constantI S_ 32 0#32))
      (addi (subi x0 (constantI S_ 32 1#32)) (constantI S_ 32 4#32)) (subi x0 (constantI S_ 32 1#32))] : Fin 3 → IVec S_ 32) k
    (Shape.Idx.first h_S_)).toInt) sliceFits_S32x8x4_S32x8x1

/-- The entries with both addends above minus infinity. -/
def openMask : IVec S32x8x100000 1 := andi
  (cmpf .ogt x1 (broadcastInDim S32x8x100000 ![] bcast_S_S32x8x100000 (constant (F := Ideal) S_ .f32 0xFF800000#32)))
  (broadcastInDim S32x8x100000 ![0, 1, 2] bcast_S32x8x1_S32x8x100000_0_1_2
    (cmpf .ogt (held x0 x2) (broadcastInDim S32x8x1 ![] bcast_S_S32x8x1 (constant (F := Ideal) S_ .f32 0xFF800000#32))))

/-- How many of them each group has. -/
def openCount : IVec S32x4 32 := Host.reduce IntOp.addi
  (extui 32 (shapeCast S32x2x4x100000 (openMask x0 x1 x2) shapeCasts_S32x8x100000_S32x2x4x100000) natLt_1_32)
  (constantI S_ 32 0#32) reducesTo_S32x2x4x100000_S32x4_d1_3 h_S_

theorem pre_eq : fn (F := Ideal) x0 x1 x2 = Host.reduce IntOp.andi
    (cmpi .sge (openCount x0 x1 x2) (broadcastInDim S32x4 ![] bcast_S_S32x4 (constantI S_ 32 4#32))) (constantI S_ 1 1#1)
    reducesTo_S32x4_S_d0_1 h_S_ := rfl

theorem held_apply (b : Fin 32) (k : Fin 8) : held x0 x2 (ix3 b k (0 : Fin 1)) = (rowOf x0 x1 x2 b).sc k.val := by
  have hk := k.isLt
  unfold held
  rw [Host.dynamicSlice_apply]
  refine congrArg x2 (funext fun a => Fin.ext ?_)
  match a with
  | ⟨0, _⟩ =>
    show (min (max (0#32 : BitVec 32).toInt 0) ((32 - 32 : ℕ) : ℤ)).toNat + b.val = b.val
    simp
  | ⟨1, _⟩ =>
    show (min (max (0#32 : BitVec 32).toInt 0) ((8 - 8 : ℕ) : ℤ)).toNat + k.val = k.val % 8
    simp; omega
  | ⟨2, _⟩ => rfl

/-- A set bit of the mask. -/
theorem openMask_set (b : Fin 32) (k : Fin 8) (t : Fin 100000) (h : openMask x0 x1 x2 (ix3 b k t) = 1#1) :
    ⊥ < (rowOf x0 x1 x2 b).lp k.val t.val ∧ ⊥ < (rowOf x0 x1 x2 b).sc k.val := by
  obtain ⟨h1, h2⟩ := IntOp.andi_eq_one.1 h
  constructor
  · have e : x1 (ix3 b k t) = (rowOf x0 x1 x2 b).lp k.val t.val := by
      show x1 (ix3 b k t) = x1 (ix3 b (⟨k.val % 8, _⟩ : Fin 8) (⟨t.val % 100000, _⟩ : Fin 100000))
      refine congrArg x1 (funext fun a => ?_)
      match a with
      | ⟨0, _⟩ => rfl
      | ⟨1, _⟩ => exact Fin.ext (Nat.mod_eq_of_lt k.isLt).symm
      | ⟨2, _⟩ => exact Fin.ext (Nat.mod_eq_of_lt t.isLt).symm
    rw [← e]
    exact above_of_cmp _ h1
  · rw [← held_apply x0 x1 x2 b k]
    have e := broadcastInDim_apply _ bcast_S32x8x1_S32x8x100000_0_1_2
      (cmpf .ogt (held x0 x2) (broadcastInDim S32x8x1 ![] bcast_S_S32x8x1 (constant (F := Ideal) S_ .f32 0xFF800000#32)))
      (ix3 b k t) (ix3 b k (0 : Fin 1)) (fun a => match a with
        | ⟨0, _⟩ => rfl
        | ⟨1, _⟩ => rfl
        | ⟨2, _⟩ => rfl)
    exact above_of_cmp _ (e.symm.trans h2)

/-- The place in the flat list of a group of an index of the regrouped mask. -/
def flatPlace (i : S32x2x4x100000.Idx) : Fin 200000 :=
  ⟨(i 1).val * 100000 + (i 3).val, by have h1 : (i 1).val < 2 := (i 1).isLt; have h3 : (i 3).val < 100000 := (i 3).isLt; omega⟩

/-- A set bit of the regrouped mask. -/
theorem regrouped_set (i : S32x2x4x100000.Idx)
    (h : shapeCast S32x2x4x100000 (openMask x0 x1 x2) shapeCasts_S32x8x100000_S32x2x4x100000 i = 1#1) :
    flatPlace i ∈ openEntries 100000 200000 (rowOf x0 x1 x2 (i 0)) (i 2).val := by
  have h1 : (i 1).val < 2 := (i 1).isLt
  have h2 : (i 2).val < 4 := (i 2).isLt
  have h3 : (i 3).val < 100000 := (i 3).isLt
  have hd : (flatPlace i).val / 100000 = (i 1).val := by show ((i 1).val * 100000 + (i 3).val) / 100000 = _; omega
  have hm : (flatPlace i).val % 100000 = (i 3).val := by show ((i 1).val * 100000 + (i 3).val) % 100000 = _; omega
  have e := openMask_set x0 x1 x2 (i 0) (⟨(i 2).val + 4 * (i 1).val, by omega⟩ : Fin 8) (i 3) (Eq.trans (Eq.symm ?_) h)
  · unfold openEntries
    rw [Finset.mem_filter, hd, hm]
    exact ⟨Finset.mem_univ _, e⟩
  · refine shapeCast_apply _ _ i _ ?_
    rw [Shape.rowMajor_val_three, Shape.rowMajor_val_four]
    show ((i 0).val * 8 + ((i 2).val + 4 * (i 1).val)) * 100000 + (i 3).val
      = (((i 0).val * 2 + (i 1).val) * 4 + (i 2).val) * 100000 + (i 3).val
    omega

theorem rows_above (h : fn (F := Ideal) x0 x1 x2 = fun _ => 1#1) (b : Fin 32) : (rowOf x0 x1 x2 b).Above := by
  intro g hg
  have h0 := congrFun ((pre_eq x0 x1 x2).symm.trans h) (fun a => a.elim0)
  have hc : 4 ≤ (openCount x0 x1 x2 (ix2 b (⟨g, hg⟩ : Fin 4))).toNat :=
    four_le _ (Host.reduce_andi_all _ _ _ _ _ h0 (ix2 b (⟨g, hg⟩ : Fin 4)))
  refine hc.trans ((count_le _ _ _ _ _).trans ?_)
  have hdrop : ∀ i, i ∈ setBits (shapeCast S32x2x4x100000 (openMask x0 x1 x2) shapeCasts_S32x8x100000_S32x2x4x100000)
      reducesTo_S32x2x4x100000_S32x4_d1_3 (ix2 b (⟨g, hg⟩ : Fin 4)) → (i 0).val = b.val ∧ (i 2).val = g := fun i hi => by
    have hd := ((mem_setBits _ _ _ _).1 hi).1
    have v0 := Shape.ReducesTo.drop_apply_val_of_eq reducesTo_S32x2x4x100000_S32x4_d1_3 i 0 0
    have v1 := Shape.ReducesTo.drop_apply_val_of_eq reducesTo_S32x2x4x100000_S32x4_d1_3 i 1 2
    rw [hd] at v0 v1
    exact ⟨v0.symm, v1.symm⟩
  refine Finset.card_le_card_of_injOn flatPlace (fun i hi => ?_) (fun i hi j hj e => ?_)
  · obtain ⟨d0, d2⟩ := hdrop i hi
    have hs := regrouped_set x0 x1 x2 i ((mem_setBits _ _ _ _).1 hi).2
    have e0 : (i 0 : Fin 32) = b := Fin.ext d0
    rw [d2, e0] at hs
    exact hs
  · obtain ⟨d0, d2⟩ := hdrop i hi
    obtain ⟨f0, f2⟩ := hdrop j hj
    have e' : (i 1).val * 100000 + (i 3).val = (j 1).val * 100000 + (j 3).val := congrArg Fin.val e
    have i3 : (i 3).val < 100000 := (i 3).isLt
    have j3 : (j 3).val < 100000 := (j 3).isLt
    funext a
    match a with
    | ⟨0, _⟩ => exact Fin.ext (d0.trans f0.symm)
    | ⟨1, _⟩ => exact Fin.ext (show (i 1).val = (j 1).val by omega)
    | ⟨2, _⟩ => exact Fin.ext (d2.trans f2.symm)
    | ⟨3, _⟩ => exact Fin.ext (show (i 3).val = (j 3).val by omega)

end Cert.Proof.Beam

end
-- ==== Proof.Algebraic.lean ====
/- The value claim: under the precondition the kernel's three results are the reference's. -/
module

public import proofs.«01_k».proof.Defs
public import proofs.«01_k».proof.Proof.Arrays
public import proofs.«01_k».proof.Proof.Above
public import proofs.«01_k».proof.Proof.Gen.ReferenceIdeal.Run
public import proofs.«01_k».proof.Proof.Gen.ReferenceIdeal.Read
public import proofs.«01_k».proof.Proof.Gen.KernelIdeal.Run
public import proofs.«01_k».proof.Proof.Gen.KernelIdeal.Read

@[expose] public section

set_option maxRecDepth 65536

noncomputable section

namespace Cert.Proof.Beam

open Idealize.ShloMosaic Idealize.SL.Sem Idealize.ShloMosaic.TcCoe

/-! ## The results -/

section
open Cert.KernelIdeal Cert.KernelIdeal.Gen

variable (m : (ℓ : Loc nD τ sig) → Buf (Elt Ideal) ℓ) (c : Dev nD) (ha : ∀ b, (launchRow m c b).Above)

/-- The place in the result array of a place in the reshaped result. -/
theorem flat_place {α : Type} (x : S32x1x16.Idx → α) (b : Fin 32) (s : Fin 16) :
    shapeCast S32x16 x shapeCasts_S32x1x16_S32x16 (ix2 b s) = x (ix3 b (0 : Fin 1) s) := by
  refine shapeCast_apply x shapeCasts_S32x1x16_S32x16 (ix2 b s) (ix3 b (0 : Fin 1) s) ?_
  rw [Shape.rowMajor_val_three, Shape.rowMajor_val_two]
  show (b.val * 1 + 0) * 16 + s.val = b.val * 16 + s.val
  omega

theorem place_pair (j : S32x16.Idx) : j = ix2 (j 0 : Fin 32) (j 1 : Fin 16) := by
  funext a
  match a with
  | ⟨0, _⟩ => rfl
  | ⟨1, _⟩ => rfl

include ha in
theorem scores_eq : Cert.ReferenceIdeal.Read.val_main_v189 (F := Ideal) (arg0 m c) (arg1 m c) (arg2 m c)
    = shapeCast S32x16 (Value.reg_main_v7_0 m c) shapeCasts_S32x1x16_S32x16 := by
  rw [final_scores m c ha]
  funext j
  obtain ⟨b, s, rfl⟩ : ∃ (b : Fin 32) (s : Fin 16), j = ix2 b s := ⟨_, _, place_pair j⟩
  exact (ref_scores (arg0 m c) (arg1 m c) (arg2 m c) b s).trans (flat_place (scoresArr m c) b s).symm

include ha in
theorem tokens_eq : Cert.ReferenceIdeal.Read.val_main_v195 (F := Ideal) (arg0 m c) (arg1 m c) (arg2 m c)
    = shapeCast S32x16 (Value.reg_main_v7_1 m c) shapeCasts_S32x1x16_S32x16 := by
  rw [final_tokens m c ha]
  funext j
  obtain ⟨b, s, rfl⟩ : ∃ (b : Fin 32) (s : Fin 16), j = ix2 b s := ⟨_, _, place_pair j⟩
  exact (ref_tokens (arg0 m c) (arg1 m c) (arg2 m c) b s).trans (flat_place (tokensArr m c) b s).symm

include ha in
theorem beams_eq : Cert.ReferenceIdeal.Read.val_main_v201 (F := Ideal) (arg0 m c) (arg1 m c) (arg2 m c)
    = shapeCast S32x16 (Value.reg_main_v7_2 m c) shapeCasts_S32x1x16_S32x16 := by
  rw [final_beams m c ha]
  funext j
  obtain ⟨b, s, rfl⟩ : ∃ (b : Fin 32) (s : Fin 16), j = ix2 b s := ⟨_, _, place_pair j⟩
  exact (ref_beams (arg0 m c) (arg1 m c) (arg2 m c) b s).trans (flat_place (beamsArr m c) b s).symm

end

/-! ## The claim -/

/-- The stages of the reference at the arguments its own memory holds are those at the kernel's. -/
theorem algebraic : Cert.algebraic_KernelIdeal_ReferenceIdeal_pre_four_candidates := by
  intro m ρ m' ρ' hpre hagree
  refine ⟨_, _, _, Cert.KernelIdeal.Value.run (F := Ideal) m ρ, ?_⟩
  refine (θ_run Cert.ReferenceIdeal.defs _ _).mono (fun _ h c => ?_) (Cert.ReferenceIdeal.Value.run (F := Ideal) m' ρ')
  have ha : ∀ b, (launchRow m c b).Above := rows_above (arg0 m c) (arg1 m c) (arg2 m c) (hpre c)
  obtain ⟨a0, a1, a2⟩ := hagree c
  have e : ∀ {α : Type} (f : X0 → X1 → X2 → α),
      f (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        = f (arg0 m c) (arg1 m c) (arg2 m c) := by
    intro α f
    rw [a0, a1, a2]
  exact ⟨((h c).1.trans (Cert.ReferenceIdeal.Read.val_main_v189_eq _)).trans ((e _).trans (scores_eq m c ha)),
    ((h c).2.1.trans (Cert.ReferenceIdeal.Read.val_main_v195_eq _)).trans ((e _).trans (tokens_eq m c ha)),
    ((h c).2.2.1.trans (Cert.ReferenceIdeal.Read.val_main_v201_eq _)).trans ((e _).trans (beams_eq m c ha)),
    (h c).2.2.2⟩

end Cert.Proof.Beam

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_four_candidates
public import proofs.«01_k».proof.Proof.Gen.ReferenceIdeal.Run
public import proofs.«01_k».proof.Proof.Gen.ReferenceIdeal.Read
public import proofs.«01_k».proof.Proof.Gen.KernelIdeal.Run
public import proofs.«01_k».proof.Proof.Gen.KernelIdeal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_four_candidates.Gen.facts,
    Beam.frame_p, Beam.frame_pi, fun m ρ _ => Beam.frame_pi m ρ trivial, Beam.frame_ri, fun m ρ _ => Beam.frame_ri m ρ trivial,
    Beam.preserves, Beam.algebraic⟩

end Cert.Proof

end
